-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rays_in_range [hPre_rays_in_range : Cert.Pre_rays_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rays_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rays_in_range [hPre_rays_in_range : Cert.Pre_rays_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rays_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rays_in_range [hKernelIdeal : Cert.KernelIdeal.Facts] [hPre_rays_in_range : Cert.Pre_rays_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rays_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rays_in_range [hReferenceIdeal : Cert.ReferenceIdeal.Facts] [hPre_rays_in_range : Cert.Pre_rays_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rays_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_rays_in_range [hKernelIdeal : Cert.KernelIdeal.Facts] [hReferenceIdeal : Cert.ReferenceIdeal.Facts] [hPre_rays_in_range : Cert.Pre_rays_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rays_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rays_in_range : Cert.Pre_rays_in_range.Facts),
    quiescent_Kernel (hKernel := hKernel)
    ∧ quiescent_KernelIdeal (hKernelIdeal := hKernelIdeal)
    ∧ quiescent_KernelIdeal_pre_rays_in_range (hKernelIdeal := hKernelIdeal) (hPre_rays_in_range := hPre_rays_in_range)
    ∧ quiescent_ReferenceIdeal (hReferenceIdeal := hReferenceIdeal)
    ∧ quiescent_ReferenceIdeal_pre_rays_in_range (hReferenceIdeal := hReferenceIdeal) (hPre_rays_in_range := hPre_rays_in_range)
    ∧ preserves_Kernel_KernelIdeal
    ∧ algebraic_KernelIdeal_ReferenceIdeal_pre_rays_in_range (hKernelIdeal := hKernelIdeal) (hReferenceIdeal := hReferenceIdeal) (hPre_rays_in_range := hPre_rays_in_range)
-- ==== Pre_rays_in_range.lean ====
abbrev S16384x3 : Shape := ⟨2, ![16384, 3]⟩
abbrev S16384x64 : Shape := ⟨2, ![16384, 64]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x63 : Shape := ⟨2, ![16384, 63]⟩
abbrev S16384x1x63 : Shape := ⟨3, ![16384, 1, 63]⟩
abbrev S16384x128x1 : Shape := ⟨3, ![16384, 128, 1]⟩
abbrev S16384x128x63 : Shape := ⟨3, ![16384, 128, 63]⟩

class Facts : Prop where
  bcast_S_S16384x64 : S_.BroadcastsInDim S16384x64 (![] : Fin 0 → Fin S16384x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S_S_ : S_.BroadcastsInDim S_ (![] : Fin 0 → Fin S_.rank)
  reduceWindows_S16384x64_S16384x64_w1s1p0_0_w64s1p63_0 : S16384x64.ReduceWindows (![1, 64] : Fin 2 → Nat) ![1, 1] ![0, 63] ![0, 0] S16384x64
  slices_S16384x64_S16384x63_0_0 : S16384x64.Slices ![0, 0] S16384x63
  bcast_S16384x63_S16384x1x63_0_2 : S16384x63.BroadcastsInDim S16384x1x63 (![0, 2] : Fin 2 → Fin S16384x1x63.rank)
  bcast_S16384x128_S16384x128x1_0_1 : S16384x128.BroadcastsInDim S16384x128x1 (![0, 1] : Fin 2 → Fin S16384x128x1.rank)
  bcast_S16384x1x63_S16384x128x63_0_1_2 : S16384x1x63.BroadcastsInDim S16384x128x63 (![0, 1, 2] : Fin 3 → Fin S16384x128x63.rank)
  bcast_S16384x128x1_S16384x128x63_0_1_2 : S16384x128x1.BroadcastsInDim S16384x128x63 (![0, 1, 2] : Fin 3 → Fin S16384x128x63.rank)
  bcast_S_S16384x1x63 : S_.BroadcastsInDim S16384x1x63 (![] : Fin 0 → Fin S16384x1x63.rank)
  slices_S16384x64_S16384x63_0_1 : S16384x64.Slices ![0, 1] S16384x63
  reducesTo_S16384x64_S_d0_1 : S16384x64.ReducesTo [0, 1] S_
  reducesTo_S16384x63_S_d0_1 : S16384x63.ReducesTo [0, 1] S_
  reducesTo_S16384x128x63_S_d0_1_2 : S16384x128x63.ReducesTo [0, 1, 2] S_

variable [Facts]

def fn_cumsum_0 {F : FTy → Type} [FloatOps F] (arg0 : FVec F S16384x64 .f32) : FVec F S16384x64 .f32 :=
  let cst : FVec F S_ .f32 := constant S_ .f32 0x00000000#32
  let v0 : FVec F S_ .f32 := broadcastInDim S_ ![] bcast_S_S_ cst
  let v1 : FVec F S16384x64 .f32 := (fun x v => Host.reduceWindowAdd ![1, 64] ![1, 1] ![0, 63] ![0, 0] x v reduceWindows_S16384x64_S16384x64_w1s1p0_0_w64s1p63_0 h_S_) arg0 v0
  v1

def fn_cumsum {F : FTy → Type} [FloatOps F] (arg0 : FVec F S16384x64 .f32) : FVec F S16384x64 .f32 :=
  let v0 : FVec F S16384x64 .f32 := fn_cumsum_0 (F := F) arg0
  v0

def fn_part2 {F : FTy → Type} [FloatOps F] (main_v18 : IVec S16384x128x63 1) (main_v36 : IVec S_ 1) (main_c_8 : IVec S_ 1) : IVec S_ 1 :=
  let main_v37 : IVec S_ 1 := (fun x v => Host.reduce IntOp.ori x v reducesTo_S16384x128x63_S_d0_1_2 h_S_) main_v18 main_c_8
  let main_v38 : IVec S_ 1 := noti main_v37
  let main_v39 : IVec S_ 1 := andi main_v36 main_v38
  main_v39

def fn_part1 {F : FTy → Type} [FloatOps F] (main_arg3 : FVec F S16384x64 .f32) (main_v1 : FVec F S16384x64 .f32) (main_v18 : IVec S16384x128x63 1) (main_v19 : FVec F S16384x64 .f32) : IVec S_ 1 :=
  let main_v20 : IVec S16384x64 1 := cmpf .ogt main_v1 main_v19
  let main_cst_3 : FVec F S_ .f32 := constant S_ .f32 0x7F800000#32
  let main_v21 : FVec F S16384x64 .f32 := broadcastInDim S16384x64 ![] bcast_S_S16384x64 main_cst_3
  let main_v22 : IVec S16384x64 1 := cmpf .olt main_v1 main_v21
  let main_v23 : IVec S16384x64 1 := andi main_v20 main_v22
  let main_cst_4 : FVec F S_ .f32 := constant S_ .f32 0x00000000#32
  let main_v24 : FVec F S16384x64 .f32 := broadcastInDim S16384x64 ![] bcast_S_S16384x64 main_cst_4
  let main_v25 : IVec S16384x64 1 := cmpf .ogt main_arg3 main_v24
  let main_cst_5 : FVec F S_ .f32 := constant S_ .f32 0x7F800000#32
  let main_v26 : FVec F S16384x64 .f32 := broadcastInDim S16384x64 ![] bcast_S_S16384x64 main_cst_5
  let main_v27 : IVec S16384x64 1 := cmpf .olt main_arg3 main_v26
  let main_v28 : IVec S16384x64 1 := andi main_v25 main_v27
  let main_v29 : FVec F S16384x63 .f32 := (extractStridedSlice S16384x63 ![0, 0] · slices_S16384x64_S16384x63_0_0) main_arg3
  let main_v30 : FVec F S16384x63 .f32 := (extractStridedSlice S16384x63 ![0, 1] · slices_S16384x64_S16384x63_0_1) main_arg3
  let main_v31 : IVec S16384x63 1 := cmpf .ole main_v29 main_v30
  let main_c : IVec S_ 1 := constantI S_ 1 1#1
  let main_v32 : IVec S_ 1 := (fun x v => Host.reduce IntOp.andi x v reducesTo_S16384x64_S_d0_1 h_S_) main_v23 main_c
  let main_c_6 : IVec S_ 1 := constantI S_ 1 1#1
  let main_v33 : IVec S_ 1 := (fun x v => Host.reduce IntOp.andi x v reducesTo_S16384x64_S_d0_1 h_S_) main_v28 main_c_6
  let main_v34 : IVec S_ 1 := andi main_v32 main_v33
  let main_c_7 : IVec S_ 1 := constantI S_ 1 1#1
  let main_v35 : IVec S_ 1 := (fun x v => Host.reduce IntOp.andi x v reducesTo_S16384x63_S_d0_1 h_S_) main_v31 main_c_7
  let main_v36 : IVec S_ 1 := andi main_v34 main_v35
  let main_c_8 : IVec S_ 1 := constantI S_ 1 0#1
  fn_part2 (F := F) main_v18 main_v36 main_c_8

def fn {F : FTy → Type} [FloatOps F] (main_arg0 : FVec F S16384x3 .f32) (main_arg1 : FVec F S16384x3 .f32) (main_arg2 : FVec F S16384x64 .f32) (main_arg3 : FVec F S16384x64 .f32) (main_arg4 : FVec F S16384x128 .f32) (main_arg5 : IVec S_ 32) : IVec S_ 1 :=
  let main_cst : FVec F S_ .f32 := constant S_ .f32 0x3727C5AC#32
  let main_v0 : FVec F S16384x64 .f32 := broadcastInDim S16384x64 ![] bcast_S_S16384x64 main_cst
  let main_v1 : FVec F S16384x64 .f32 := addf main_arg2 main_v0
  let main_cst_0 : FVec F S_ .f32 := constant S_ .f32 0x00000000#32
  let main_v2 : FVec F S16384 .f32 := (fun x v => Host.reduceAdd x v reducesTo_S16384x64_S16384_d1 h_S_) main_v1 main_cst_0
  let main_v3 : FVec F S16384x1 .f32 := broadcastInDim S16384x1 ![0] bcast_S16384_S16384x1_0 main_v2
  let main_v4 : FVec F S16384x64 .f32 := broadcastInDim S16384x64 ![0, 1] bcast_S16384x1_S16384x64_0_1 main_v3
  let main_v5 : FVec F S16384x64 .f32 := Host.divf main_v1 main_v4
  let main_v6 : FVec F S16384x64 .f32 := fn_cumsum (F := F) main_v5
  let main_v7 : FVec F S16384x63 .f32 := (extractStridedSlice S16384x63 ![0, 0] · slices_S16384x64_S16384x63_0_0) main_v6
  let main_v8 : FVec F S16384x1x63 .f32 := broadcastInDim S16384x1x63 ![0, 2] bcast_S16384x63_S16384x1x63_0_2 main_v7
  let main_v9 : FVec F S16384x128x1 .f32 := broadcastInDim S16384x128x1 ![0, 1] bcast_S16384x128_S16384x128x1_0_1 main_arg4
  let main_v10 : FVec F S16384x128x63 .f32 := broadcastInDim S16384x128x63 ![0, 1, 2] bcast_S16384x1x63_S16384x128x63_0_1_2 main_v8
  let main_v11 : FVec F S16384x128x63 .f32 := broadcastInDim S16384x128x63 ![0, 1, 2] bcast_S16384x128x1_S16384x128x63_0_1_2 main_v9
  let main_v12 : IVec S16384x128x63 1 := cmpf .oeq main_v10 main_v11
  let main_v13 : FVec F S16384x63 .f32 := (extractStridedSlice S16384x63 ![0, 0] · slices_S16384x64_S16384x63_0_0) main_v5
  let main_v14 : FVec F S16384x1x63 .f32 := broadcastInDim S16384x1x63 ![0, 2] bcast_S16384x63_S16384x1x63_0_2 main_v13
  let main_cst_1 : FVec F S_ .f32 := constant S_ .f32 0x3727C5AC#32
  let main_v15 : FVec F S16384x1x63 .f32 := broadcastInDim S16384x1x63 ![] bcast_S_S16384x1x63 main_cst_1
  let main_v16 : IVec S16384x1x63 1 := cmpf .olt main_v14 main_v15
  let main_v17 : IVec S16384x128x63 1 := broadcastInDim S16384x128x63 ![0, 1, 2] bcast_S16384x1x63_S16384x128x63_0_1_2 main_v16
  let main_v18 : IVec S16384x128x63 1 := andi main_v12 main_v17
  let main_cst_2 : FVec F S_ .f32 := constant S_ .f32 0x00000000#32
  let main_v19 : FVec F S16384x64 .f32 := broadcastInDim S16384x64 ![] bcast_S_S16384x64 main_cst_2
  fn_part1 (F := F) main_arg3 main_v1 main_v18 main_v19
-- ==== Kernel.lean ====
abbrev S16384x3 : Shape := ⟨2, ![16384, 3]⟩
abbrev S16384x64 : Shape := ⟨2, ![16384, 64]⟩
abbrev S16384x128 : Shape := ⟨2, ![16384, 128]⟩
abbrev S_ : Shape := ⟨0, ![]⟩
abbrev S16384x192 : Shape := ⟨2, ![16384, 192]⟩
abbrev S3x16384x192 : Shape := ⟨3, ![3, 16384, 192]⟩
abbrev S512x3 : Shape := ⟨2, ![512, 3]⟩
abbrev S512x64 : Shape := ⟨2, ![512, 64]⟩
abbrev S512x128 : Shape := ⟨2, ![512, 128]⟩
abbrev S512x192 : Shape := ⟨2, ![512, 192]⟩
abbrev S3x512x192 : Shape := ⟨3, ![3, 512, 192]⟩
abbrev S512 : Shape := ⟨1, ![512]⟩
abbrev S512x1 : Shape := ⟨2, ![512, 1]⟩
abbrev S512x63 : Shape := ⟨2, ![512, 63]⟩
abbrev S512x2 : Shape := ⟨2, ![512, 2]⟩
abbrev S512x62 : Shape := ⟨2, ![512, 62]⟩
abbrev S512x4 : Shape := ⟨2, ![512, 4]⟩
abbrev S512x60 : Shape := ⟨2, ![512, 60]⟩
abbrev S512x8 : Shape := ⟨2, ![512, 8]⟩
abbrev S512x56 : Shape := ⟨2, ![512, 56]⟩
abbrev S512x16 : Shape := ⟨2, ![512, 16]⟩
abbrev S512x48 : Shape := ⟨2, ![512, 48]⟩
abbrev S512x32 : Shape := ⟨2, ![512, 32]⟩
abbrev S512x127 : Shape := ⟨2, ![512, 127]⟩
abbrev S512x126 : Shape := ⟨2, ![512, 126]⟩
abbrev S512x124 : Shape := ⟨2, ![512, 124]⟩
abbrev S512x120 : Shape := ⟨2, ![512, 120]⟩
abbrev S512x112 : Shape := ⟨2, ![512, 112]⟩
abbrev S512x96 : Shape := ⟨2, ![512, 96]⟩
abbrev S512x256 : Shape := ⟨2, ![512, 256]⟩
abbrev S512x224 : Shape := ⟨2, ![512, 224]⟩
abbrev S512x240 : Shape := ⟨2, ![512, 240]⟩
abbrev S512x248 : Shape := ⟨2, ![512, 248]⟩
abbrev S512x252 : Shape := ⟨2, ![512, 252]⟩
abbrev S512x254 : Shape := ⟨2, ![512, 254]⟩
abbrev S512x255 : Shape := ⟨2, ![512, 255]⟩
abbrev S512x191 : Shape := ⟨2, ![512, 191]⟩
abbrev S512x190 : Shape := ⟨2, ![512, 190]⟩
abbrev S512x188 : Shape := ⟨2, ![512, 188]⟩
abbrev S512x184 : Shape := ⟨2, ![512, 184]⟩
abbrev S512x176 : Shape := ⟨2, ![512, 176]⟩
abbrev S512x160 : Shape := ⟨2, ![512, 160]⟩
abbrev S3x512 : Shape := ⟨2, ![3, 512]⟩
abbrev S3x512x1 : Shape := ⟨3, ![3, 512, 1]⟩
abbrev S1x512x192 : Shape := ⟨3, ![1, 512, 192]⟩
abbrev S16384x192x3 : Shape := ⟨3, ![16384, 192, 3]⟩

abbrev nBuf : Space → Nat
  | .hbm => 9
  | .vmem => 14
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x64, .f32⟩
  | .hbm, ⟨3, _⟩ => ⟨S16384x64, .f32⟩
  | .hbm, ⟨4, _⟩ => ⟨S16384x128, .f32⟩
  | .hbm, ⟨5, _⟩ => ⟨S_, .i32⟩
  | .hbm, ⟨6, _⟩ => ⟨S16384x192, .f32⟩
  | .hbm, ⟨7, _⟩ => ⟨S3x16384x192, .f32⟩
  | .hbm, ⟨8, _⟩ => ⟨S16384x192x3, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x128, .f32⟩
  | .local _ .vmem, ⟨9, _⟩ => ⟨S512x128, .f32⟩
  | .local _ .vmem, ⟨10, _⟩ => ⟨S512x192, .f32⟩
  | .local _ .vmem, ⟨11, _⟩ => ⟨S512x192, .f32⟩
  | .local _ .vmem, ⟨12, _⟩ => ⟨S3x512x192, .f32⟩
  | .local _ .vmem, ⟨13, _⟩ => ⟨S3x512x192, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x3 : Shape := ⟨2, ![16384, 3]⟩
abbrev S16384x64 : Shape := ⟨2, ![16384, 64]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x65 : Shape := ⟨2, ![16384, 65]⟩
abbrev S16384x1x65 : Shape := ⟨3, ![16384, 1, 65]⟩
abbrev S16384x128x1 : Shape := ⟨3, ![16384, 128, 1]⟩
abbrev S16384x128x65 : Shape := ⟨3, ![16384, 128, 65]⟩
abbrev S1 : Shape := ⟨1, ![1]⟩
abbrev S1x1x1 : Shape := ⟨3, ![1, 1, 1]⟩
abbrev S16384x192 : Shape := ⟨2, ![16384, 192]⟩
abbrev S16384x1x3 : Shape := ⟨3, ![16384, 1, 3]⟩
abbrev S16384x192x1 : Shape := ⟨3, ![16384, 192, 1]⟩
abbrev S16384x192x3 : Shape := ⟨3, ![16384, 192, 3]⟩

abbrev nBuf : Space → Nat
  | .hbm => 158
  | .vmem => 0
  | .smem => 0
  | _ => 0

abbrev hbmTy0_0 (i : Nat) : BufTy := match i % 128 with
  | 0 => ⟨S16384x3, .f32⟩
  | 1 => ⟨S16384x3, .f32⟩
  | 2 => ⟨S16384x64, .f32⟩
  | 3 => ⟨S16384x64, .f32⟩
  | 4 => ⟨S16384x128, .f32⟩
  | 5 => ⟨S_, .i32⟩
  | 6 => ⟨S_, .f32⟩
  | 7 => ⟨S16384x64, .f32⟩
  | 8 => ⟨S16384x64, .f32⟩
  | 9 => ⟨S_, .f32⟩
  | 10 => ⟨S16384, .f32⟩
  | 11 => ⟨S16384x1, .f32⟩
  | 12 => ⟨S16384x64, .f32⟩
  | 13 => ⟨S16384x64, .f32⟩
  | 14 => ⟨S_, .f32⟩
  | 15 => ⟨S_, .f32⟩
  | 16 => ⟨S16384x64, .f32⟩
  | 17 => ⟨S16384x1, .f32⟩
  | 18 => ⟨S_, .f32⟩
  | 19 => ⟨S16384x1, .f32⟩
  | 20 => ⟨S16384x65, .f32⟩
  | 21 => ⟨S16384x1x65, .f32⟩
  | 22 => ⟨S16384x128x1, .f32⟩
  | 23 => ⟨S16384x128x65, .f32⟩
  | 24 => ⟨S16384x128x65, .f32⟩
  | 25 => ⟨S16384x128x65, .i1⟩
  | 26 => ⟨S16384x128x65, .i32⟩
  | 27 => ⟨S_, .i32⟩
  | 28 => ⟨S16384x128, .i32⟩
  | 29 => ⟨S_, .i32⟩
  | 30 => ⟨S16384x128, .i32⟩
  | 31 => ⟨S16384x128, .i32⟩
  | 32 => ⟨S_, .i32⟩
  | 33 => ⟨S_, .i32⟩
  | 34 => ⟨S_, .i32⟩
  | 35 => ⟨S16384x128, .i32⟩
  | 36 => ⟨S16384x128, .i32⟩
  | 37 => ⟨S_, .i32⟩
  | 38 => ⟨S16384x128, .i32⟩
  | 39 => ⟨S16384x128, .i32⟩
  | 40 => ⟨S_, .i32⟩
  | 41 => ⟨S_, .i32⟩
  | 42 => ⟨S_, .i32⟩
  | 43 => ⟨S16384x128, .i32⟩
  | 44 => ⟨S16384x128, .i32⟩
  | 45 => ⟨S_, .i32⟩
  | 46 => ⟨S16384x128, .i32⟩
  | 47 => ⟨S16384x128, .i32⟩
  | 48 => ⟨S_, .i32⟩
  | 49 => ⟨S16384x128, .i32⟩
  | 50 => ⟨S16384x128, .i1⟩
  | 51 => ⟨S_, .i32⟩
  | 52 => ⟨S16384x128, .i32⟩
  | 53 => ⟨S16384x128, .i32⟩
  | 54 => ⟨S16384x128, .i32⟩
  | 55 => ⟨S16384x128x1, .i32⟩
  | 56 => ⟨S1, .i32⟩
  | 57 => ⟨S_, .i32⟩
  | 58 => ⟨S16384x128x1, .i32⟩
  | 59 => ⟨S16384x128x1, .i1⟩
  | 60 => ⟨S1x1x1, .i32⟩
  | 61 => ⟨S16384x128x1, .i32⟩
  | 62 => ⟨S16384x128x1, .i1⟩
  | 63 => ⟨S16384x128x1, .i1⟩
  | 64 => ⟨S_, .i1⟩
  | 65 => ⟨S16384x128, .i1⟩
  | 66 => ⟨S16384x128, .f32⟩
  | 67 => ⟨S_, .f32⟩
  | 68 => ⟨S16384x128, .f32⟩
  | 69 => ⟨S16384x128, .f32⟩
  | 70 => ⟨S_, .i32⟩
  | 71 => ⟨S16384x128, .i32⟩
  | 72 => ⟨S16384x128, .i1⟩
  | 73 => ⟨S_, .i32⟩
  | 74 => ⟨S16384x128, .i32⟩
  | 75 => ⟨S16384x128, .i32⟩
  | 76 => ⟨S16384x128, .i32⟩
  | 77 => ⟨S16384x128x1, .i32⟩
  | 78 => ⟨S1, .i32⟩
  | 79 => ⟨S_, .i32⟩
  | 80 => ⟨S16384x128x1, .i32⟩
  | 81 => ⟨S16384x128x1, .i1⟩
  | 82 => ⟨S1x1x1, .i32⟩
  | 83 => ⟨S16384x128x1, .i32⟩
  | 84 => ⟨S16384x128x1, .i1⟩
  | 85 => ⟨S16384x128x1, .i1⟩
  | 86 => ⟨S_, .i1⟩
  | 87 => ⟨S16384x128, .i1⟩
  | 88 => ⟨S16384x128, .f32⟩
  | 89 => ⟨S_, .f32⟩
  | 90 => ⟨S16384x128, .f32⟩
  | 91 => ⟨S16384x128, .f32⟩
  | 92 => ⟨S_, .i32⟩
  | 93 => ⟨S16384x128, .i32⟩
  | 94 => ⟨S16384x128, .i1⟩
  | 95 => ⟨S_, .i32⟩
  | 96 => ⟨S16384x128, .i32⟩
  | 97 => ⟨S16384x128, .i32⟩
  | 98 => ⟨S16384x128, .i32⟩
  | 99 => ⟨S16384x128x1, .i32⟩
  | 100 => ⟨S1, .i32⟩
  | 101 => ⟨S_, .i32⟩
  | 102 => ⟨S16384x128x1, .i32⟩
  | 103 => ⟨S16384x128x1, .i1⟩
  | 104 => ⟨S1x1x1, .i32⟩
  | 105 => ⟨S16384x128x1, .i32⟩
  | 106 => ⟨S16384x128x1, .i1⟩
  | 107 => ⟨S16384x128x1, .i1⟩
  | 108 => ⟨S_, .i1⟩
  | 109 => ⟨S16384x128, .i1⟩
  | 110 => ⟨S16384x128, .f32⟩
  | 111 => ⟨S_, .f32⟩
  | 112 => ⟨S16384x128, .f32⟩
  | 113 => ⟨S16384x128, .f32⟩
  | 114 => ⟨S_, .i32⟩
  | 115 => ⟨S16384x128, .i32⟩
  | 116 => ⟨S16384x128, .i1⟩
  | 117 => ⟨S_, .i32⟩
  | 118 => ⟨S16384x128, .i32⟩
  | 119 => ⟨S16384x128, .i32⟩
  | 120 => ⟨S16384x128, .i32⟩
  | 121 => ⟨S16384x128x1, .i32⟩
  | 122 => ⟨S1, .i32⟩
  | 123 => ⟨S_, .i32⟩
  | 124 => ⟨S16384x128x1, .i32⟩
  | 125 => ⟨S16384x128x1, .i1⟩
  | 126 => ⟨S1x1x1, .i32⟩
  | 127 => ⟨S16384x128x1, .i32⟩
  | _ => ⟨S16384x3, .f32⟩

abbrev hbmTy0_1 (i : Nat) : BufTy := match i % 128 with
  | 0 => ⟨S16384x128x1, .i1⟩
  | 1 => ⟨S16384x128x1, .i1⟩
  | 2 => ⟨S_, .i1⟩
  | 3 => ⟨S16384x128, .i1⟩
  | 4 => ⟨S16384x128, .f32⟩
  | 5 => ⟨S_, .f32⟩
  | 6 => ⟨S16384x128, .f32⟩
  | 7 => ⟨S16384x128, .f32⟩
  | 8 => ⟨S16384x128, .f32⟩
  | 9 => ⟨S_, .f32⟩
  | 10 => ⟨S16384x128, .f32⟩
  | 11 => ⟨S16384x128, .i1⟩
  | 12 => ⟨S_, .f32⟩
  | 13 => ⟨S16384x128, .f32⟩
  | 14 => ⟨S16384x128, .f32⟩
  | 15 => ⟨S16384x128, .f32⟩
  | 16 => ⟨S16384x128, .f32⟩
  | 17 => ⟨S16384x128, .f32⟩
  | 18 => ⟨S16384x128, .f32⟩
  | 19 => ⟨S16384x128, .f32⟩
  | 20 => ⟨S16384x192, .f32⟩
  | 21 => ⟨S16384x192, .f32⟩
  | 22 => ⟨S16384x1x3, .f32⟩
  | 23 => ⟨S16384x1x3, .f32⟩
  | 24 => ⟨S16384x192x1, .f32⟩
  | 25 => ⟨S16384x192x3, .f32⟩
  | 26 => ⟨S16384x192x3, .f32⟩
  | 27 => ⟨S16384x192x3, .f32⟩
  | 28 => ⟨S16384x192x3, .f32⟩
  | 29 => ⟨S16384x192x3, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_call0_cst : Ref sig .tc := ⟨.hbm, 14, rfl⟩
abbrev main_call0_call0_v0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_c_5 : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v20 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_cst : Ref sig .tc := ⟨.hbm, 67, rfl⟩
abbrev main_call3_v14 : Ref sig .tc := ⟨.hbm, 68, rfl⟩
abbrev main_v21 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_cst : Ref sig .tc := ⟨.hbm, 89, rfl⟩
abbrev main_call4_v14 : Ref sig .tc := ⟨.hbm, 90, rfl⟩
abbrev main_v22 : Ref sig .tc := ⟨.hbm, 91, rfl⟩
abbrev main_call5_c : Ref sig .tc := ⟨.hbm, 92, rfl⟩
abbrev main_call5_v0 : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_c_1 : Ref sig .tc := ⟨.hbm, 100, rfl⟩
abbrev main_call5_c_2 : Ref sig .tc := ⟨.hbm, 101, rfl⟩
abbrev main_call5_v6 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_c_3 : Ref sig .tc := ⟨.hbm, 108, rfl⟩
abbrev main_call5_v12 : Ref sig .tc := ⟨.hbm, 109, rfl⟩
abbrev main_call5_v13 : Ref sig .tc := ⟨.hbm, 110, rfl⟩
abbrev main_call5_cst : Ref sig .tc := ⟨.hbm, 111, rfl⟩
abbrev main_call5_v14 : Ref sig .tc := ⟨.hbm, 112, rfl⟩
abbrev main_v23 : Ref sig .tc := ⟨.hbm, 113, rfl⟩
abbrev main_call6_c : Ref sig .tc := ⟨.hbm, 114, rfl⟩
abbrev main_call6_v0 : Ref sig .tc := ⟨.hbm, 115, rfl⟩
abbrev main_call6_v1 : Ref sig .tc := ⟨.hbm, 116, rfl⟩
abbrev main_call6_c_0 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_c_1 : Ref sig .tc := ⟨.hbm, 122, rfl⟩
abbrev main_call6_c_2 : Ref sig .tc := ⟨.hbm, 123, rfl⟩
abbrev main_call6_v6 : Ref sig .tc := ⟨.hbm, 124, rfl⟩
abbrev main_call6_v7 : Ref sig .tc := ⟨.hbm, 125, rfl⟩
abbrev main_call6_v8 : Ref sig .tc := ⟨.hbm, 126, rfl⟩
abbrev main_call6_v9 : Ref sig .tc := ⟨.hbm, 127, rfl⟩
abbrev main_call6_v10 : Ref sig .tc := ⟨.hbm, 128, rfl⟩
abbrev main_call6_v11 : Ref sig .tc := ⟨.hbm, 129, rfl⟩
abbrev main_call6_c_3 : Ref sig .tc := ⟨.hbm, 130, rfl⟩
abbrev main_call6_v12 : Ref sig .tc := ⟨.hbm, 131, rfl⟩
abbrev main_call6_v13 : Ref sig .tc := ⟨.hbm, 132, rfl⟩
abbrev main_call6_cst : Ref sig .tc := ⟨.hbm, 133, rfl⟩
abbrev main_call6_v14 : Ref sig .tc := ⟨.hbm, 134, rfl⟩
abbrev main_v24 : Ref sig .tc := ⟨.hbm, 135, rfl⟩
abbrev main_v25 : Ref sig .tc := ⟨.hbm, 136, rfl⟩
abbrev main_cst_7 : Ref sig .tc := ⟨.hbm, 137, rfl⟩
abbrev main_v26 : Ref sig .tc := ⟨.hbm, 138, rfl⟩
abbrev main_v27 : Ref sig .tc := ⟨.hbm, 139, rfl⟩
abbrev main_cst_8 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩

abbrev nD : Nat := 1
abbrev τ : Topo := Topo.v7x

variable {F : FTy → Type} [FloatOps F]
-- ==== Proof.Lanes.lean ====
/-
  The lane operations of the kernel on a block of 512 rows, at any width: a rotation of the lanes
  by a number of positions, a shift that fills with a constant, the test of one bit of the lane
  number, and each of them read at one row and lane.
-/
module

public import proofs.«01_k».proof.KernelIdeal
public import proofs.«01_k».proof.Proof.Gen.KernelIdeal
public import Idealize.ShloMosaic.Lib.Pointwise
public import Idealize.ShloMosaic.PureOps.Ideal

@[expose] public section

noncomputable section

namespace Cert.Rows

open Idealize.ShloMosaic

/-- A block of 512 rows of `n` lanes. -/
abbrev W (n : Nat) : Shape := ⟨2, ![512, n]⟩

/-- A run of lanes inside the block is a slice of it. -/
theorem slices_lanes {n o w : Nat} (h : o + w ≤ n) : (W n).Slices ![0, o] (W w) :=
  ⟨rfl, fun a => by
    match a with
    | ⟨0, _⟩ => exact Nat.le_refl _
    | ⟨1, _⟩ => exact h⟩

/-- Two runs of lanes laid side by side fill the block. -/
theorem concatenates_lanes {n a b : Nat} (h : a + b = n) : Shape.Concatenates [W a, W b] (W n) 1 := by
  refine ⟨Nat.le_refl 2, ?_, ?_⟩
  · intro s hs
    simp only [List.mem_cons, List.mem_nil_iff, or_false] at hs
    rcases hs with rfl | rfl <;> exact ⟨rfl, fun b hb => by fin_cases b <;> first | rfl | exact absurd rfl hb⟩
  · subst h
    rfl

/-- One row of a block, as a function of the lane. -/
def row {α : Type} {n : Nat} (x : (W n).Idx → α) (r : Fin 512) : Fin n → α := fun i => x (ix2 r i)

section
variable {n : Nat} {α : Type}

/-- Two runs side by side, read at a lane. -/
theorem beside_apply {a b : Nat} (h : a + b = n) (x : (W a).Idx → α) (y : (W b).Idx → α)
    (hc : Shape.Concatenates [W a, W b] (W n) 1) (r : Fin 512) (i : Fin n) :
    concatenate (W n) 1 [⟨W a, x⟩, ⟨W b, y⟩] hc (ix2 r i)
      = if hi : i.val < a then x (ix2 r ⟨i.val, hi⟩) else y (ix2 r ⟨i.val - a, by have := i.isLt; omega⟩) := by
  rw [concatenate_pair_apply]
  split
  · rename_i hi
    rw [dif_pos (show i.val < a from hi)]
    congr 1
    funext d
    match d with
    | ⟨0, _⟩ => rfl
    | ⟨1, _⟩ => rfl
  · rename_i hi
    rw [dif_neg (show ¬ i.val < a from hi)]
    congr 1
    funext d
    match d with
    | ⟨0, _⟩ => rfl
    | ⟨1, _⟩ => rfl

/-- A run of lanes read at a lane. -/
theorem lanes_apply {o w : Nat} (x : (W n).Idx → α) (h : (W n).Slices ![0, o] (W w)) (r : Fin 512) (i : Fin w)
    (hi : o + i.val < n) : extractStridedSlice (W w) ![0, o] x h (ix2 r i) = x (ix2 r ⟨o + i.val, hi⟩) := by
  unfold extractStridedSlice
  congr 1
  funext d
  match d with
  | ⟨0, _⟩ => exact Fin.ext (Nat.zero_add _)
  | ⟨1, _⟩ => rfl

/-- The lanes rotated upwards: lane `i` takes what stood `a` lanes below, the first `a` lanes the last ones. -/
def rollUp (n a : Nat) (h : a ≤ n) (x : (W n).Idx → α) : (W n).Idx → α :=
  concatenate (W n) 1
    [⟨W a, extractStridedSlice (W a) ![0, n - a] x (slices_lanes (by omega))⟩,
      ⟨W (n - a), extractStridedSlice (W (n - a)) ![0, 0] x (slices_lanes (by omega))⟩]
    (concatenates_lanes (by omega))

/-- The lanes rotated downwards: lane `i` takes what stood `a` lanes above, the last `a` lanes the first ones. -/
def rollDown (n a : Nat) (h : a ≤ n) (x : (W n).Idx → α) : (W n).Idx → α :=
  concatenate (W n) 1
    [⟨W (n - a), extractStridedSlice (W (n - a)) ![0, a] x (slices_lanes (by omega))⟩,
      ⟨W a, extractStridedSlice (W a) ![0, 0] x (slices_lanes (by omega))⟩]
    (concatenates_lanes (by omega))

/-- The lanes moved upwards by `a`, the first `a` filled with one value. -/
def shiftUp (n a : Nat) (h : a ≤ n) (fill : α) (x : (W n).Idx → α) : (W n).Idx → α :=
  concatenate (W n) 1
    [⟨W a, broadcast (W a) fill⟩,
      ⟨W (n - a), extractStridedSlice (W (n - a)) ![0, 0] x (slices_lanes (by omega))⟩]
    (concatenates_lanes (by omega))

/-- A rotation upwards by `a`, at a lane from `a` on. -/
theorem rollUp_ge {a : Nat} (h : a ≤ n) (x : (W n).Idx → α) (r : Fin 512) (i : Fin n) (hi : a ≤ i.val) :
    rollUp n a h x (ix2 r i) = x (ix2 r ⟨i.val - a, by have := i.isLt; omega⟩) := by
  have := i.isLt
  unfold rollUp
  rw [beside_apply (by omega), dif_neg (by omega), lanes_apply _ _ _ _ (by dsimp only; omega)]
  congr 2
  exact Fin.ext (Nat.zero_add _)

/-- A rotation downwards by `a`, at a lane with another one `a` above it. -/
theorem rollDown_lt {a : Nat} (h : a ≤ n) (x : (W n).Idx → α) (r : Fin 512) (i : Fin n) (hi : i.val + a < n) :
    rollDown n a h x (ix2 r i) = x (ix2 r ⟨i.val + a, hi⟩) := by
  unfold rollDown
  rw [beside_apply (by omega), dif_pos (by omega), lanes_apply _ _ _ _ (by dsimp only; omega)]
  congr 2
  exact Fin.ext (Nat.add_comm _ _)

/-- A shift upwards by `a`, at a lane. -/
theorem shiftUp_apply {a : Nat} (h : a ≤ n) (fill : α) (x : (W n).Idx → α) (r : Fin 512) (i : Fin n) :
    shiftUp n a h fill x (ix2 r i) = if a ≤ i.val then x (ix2 r ⟨i.val - a, by have := i.isLt; omega⟩) else fill := by
  have := i.isLt
  unfold shiftUp
  rw [beside_apply (by omega)]
  by_cases hi : i.val < a
  · rw [dif_pos hi, if_neg (by omega)]
    rfl
  · rw [dif_neg hi, if_pos (by omega), lanes_apply _ _ _ _ (by dsimp only; omega)]
    congr 2
    exact Fin.ext (Nat.zero_add _)

end

/-- The lane number, as the kernel counts it. -/
abbrev lane (n : Nat) (h : (W n).Iotas .tc 32 [1]) : IVec (W n) 32 := iota .tc (W n) 32 [1] h

/-- Where the lane number has a bit of `k` set. -/
def bitOf (n : Nat) (h : (W n).Iotas .tc 32 [1]) (k : BitVec 32) : IVec (W n) 1 :=
  cmpi .ne (andi (lane n h) (broadcast (W n) k)) (broadcast (W n) 0#32)

/-- The lane number at lane `i` is `i`. -/
theorem lane_apply {n : Nat} (h : (W n).Iotas .tc 32 [1]) (r : Fin 512) (i : Fin n) :
    lane n h (ix2 r i) = BitVec.ofNat 32 i.val := by
  show BitVec.ofNat 32 (0 * _ + i.val) = _
  rw [Nat.zero_mul, Nat.zero_add]

/-- The bit test at a lane: set exactly when the lane number and the mask share a bit. -/
theorem bitOf_apply {n : Nat} (hn : n ≤ 2 ^ 32) (h : (W n).Iotas .tc 32 [1]) (k : Nat) (hk : k < 2 ^ 32) (r : Fin 512) (i : Fin n) :
    bitOf n h (BitVec.ofNat 32 k) (ix2 r i) = BitVec.ofBool (decide (i.val &&& k ≠ 0)) := by
  have hi : i.val < 2 ^ 32 := lt_of_lt_of_le i.isLt hn
  show BitVec.ofBool (lane n h (ix2 r i) &&& BitVec.ofNat 32 k != 0#32) = _
  rw [lane_apply]
  congr 1
  rw [bne, Bool.beq_eq_decide_eq, ← decide_not]
  refine decide_eq_decide.mpr (not_congr ?_)
  rw [← BitVec.toNat_inj, BitVec.toNat_and, BitVec.toNat_ofNat, BitVec.toNat_ofNat, Nat.mod_eq_of_lt hi, Nat.mod_eq_of_lt hk]
  rfl

end Cert.Rows

end
-- ==== Proof.Stages.lean ====
/-
  The stages the kernel is made of, on a block of 512 rows, each with what it does to one row:
  a stage of the sort of the random numbers, a stage of the merge of the two ascending lists (on the keys and on the channel
  that travels with them), a step of a running sum, of a running maximum from the left and of a
  running minimum from the right.
-/
module

public import proofs.«01_k».proof.Proof.Lanes
public import Idealize.ShloMosaic.Lib.SortNet.Sorts

@[expose] public section

noncomputable section

namespace Cert.Rows

open Idealize.ShloMosaic Idealize.ShloMosaic.SortNet

/-- A block of 512 rows of `n` extended reals. -/
abbrev V (n : Nat) : Type := FVec Ideal (W n) .f32

/-- Every block has a lane number. -/
theorem iotas_lanes (n : Nat) : (W n).Iotas .tc 32 [1] :=
  ⟨List.nodup_singleton _, fun _ => ⟨Or.inr rfl, Nat.le_refl 2⟩, fun h => absurd rfl h⟩

/-- The value `a` lanes away across one bit of the lane number: from below where the bit is set, from above elsewhere. -/
def across (n a : Nat) (x : V n) : V n :=
  if h : a ≤ n then select (bitOf n (iotas_lanes n) (BitVec.ofNat 32 a)) (rollUp n a h x) (rollDown n a h x) else x

/-- A choice by a truth value's bit is a choice by the truth value. -/
theorem select_ofBool {α : Type} (b : Bool) (x y : α) : Scalar.select (BitVec.ofBool b) x y = if b then x else y := by
  cases b <;> rfl

/-- At a distance that is a power of two the value across is that of the lane's partner in the exchange network. -/
theorem across_row {p s : Nat} (hp : p ≤ 31) (hs : s < p) (x : V (2 ^ p)) (r : Fin 512) (i : Fin (2 ^ p)) :
    across (2 ^ p) (2 ^ s) x (ix2 r i) = row x r (partner p s i) := by
  have h1 : 2 ^ s ≤ 2 ^ p := Nat.pow_le_pow_right (by decide) hs.le
  have h2 : 2 ^ p ≤ 2 ^ 32 := Nat.pow_le_pow_right (by decide) (by omega)
  have h3 : 2 ^ s < 2 ^ 32 := Nat.pow_lt_pow_right (by decide) (by omega)
  unfold across
  rw [dif_pos h1]
  show Scalar.select _ _ _ = _
  rw [bitOf_apply h2 _ _ h3, select_ofBool]
  by_cases hb : i.val &&& 2 ^ s = 0
  · have hv := partner_val_of_clear hs i hb
    have hlt := (partner p s i).isLt
    rw [decide_eq_false (not_not.mpr hb), if_neg (by decide), rollDown_lt h1 _ _ _ (by omega)]
    exact congrArg (row x r) (Fin.ext hv.symm)
  · have hv := partner_val_of_set hs i hb
    rw [decide_eq_true hb, if_pos rfl, rollUp_ge h1 _ _ _ hv.1]
    exact congrArg (row x r) (Fin.ext hv.2.symm)

/-- One stage of the sort: lanes `a` apart exchanged, in the direction the bit `k` of the lane number gives. -/
def sortStage (n a k : Nat) (x : V n) : V n :=
  select (xori (bitOf n (iotas_lanes n) (BitVec.ofNat 32 k)) (bitOf n (iotas_lanes n) (BitVec.ofNat 32 a)))
    (minimumf x (across n a x)) (maximumf x (across n a x))

/-- The stage on a row is a stage of the bitonic network. -/
theorem sortStage_row {p s l : Nat} (hp : p ≤ 31) (hs : s < p) (hsl : s < l) (hl : l ≤ 31) (x : V (2 ^ p)) (r : Fin 512) :
    row (sortStage (2 ^ p) (2 ^ s) (2 ^ l) x) r
      = Network.apply (stage p s fun i => decide (i.val &&& 2 ^ l = 0) == true) (row x r) := by
  have h2 : 2 ^ p ≤ 2 ^ 32 := Nat.pow_le_pow_right (by decide) (by omega)
  have h3 : 2 ^ s < 2 ^ 32 := Nat.pow_lt_pow_right (by decide) (by omega)
  have h4 : 2 ^ l < 2 ^ 32 := Nat.pow_lt_pow_right (by decide) (by omega)
  funext i
  have e : row (sortStage (2 ^ p) (2 ^ s) (2 ^ l) x) r i
      = if (decide (i.val &&& 2 ^ l ≠ 0) ^^ decide (i.val &&& 2 ^ s ≠ 0)) then min (row x r i) (row x r (partner p s i))
        else max (row x r i) (row x r (partner p s i)) := by
    show Scalar.select (bitOf _ _ _ _ ^^^ bitOf _ _ _ _) (min (x (ix2 r i)) (across _ _ x (ix2 r i))) (max (x (ix2 r i)) (across _ _ x (ix2 r i))) = _
    rw [bitOf_apply h2 _ _ h3, bitOf_apply h2 _ _ h4, across_row hp hs]
    rw [show ∀ a b : Bool, BitVec.ofBool a ^^^ BitVec.ofBool b = BitVec.ofBool (a ^^ b) by decide, select_ofBool]
    rfl
  rw [e]
  by_cases hb : i.val &&& 2 ^ s = 0
  · rw [(apply_stage hs _ (row x r) i hb).1]
    by_cases hk : i.val &&& 2 ^ l = 0 <;> simp [hb, hk]
  · have hc := partner_and_of_set hs i hb
    have h := (apply_stage hs (fun i => decide (i.val &&& 2 ^ l = 0) == true) (row x r) (partner p s i) hc).2
    rw [partner_partner hs] at h
    rw [h]
    have hk : (partner p s i).val &&& 2 ^ l = i.val &&& 2 ^ l := by
      rw [partner_val hs, Nat.and_xor_distrib_right]
      have : 2 ^ s &&& 2 ^ l = 0 := by
        refine Nat.eq_of_testBit_eq fun j => ?_
        rw [Nat.testBit_and, Nat.testBit_two_pow, Nat.testBit_two_pow, Nat.zero_testBit]
        by_cases hj : s = j
        · have : ¬ l = j := by omega
          simp [this]
        · simp [hj]
      rw [this, Nat.xor_zero]
    rw [hk]
    by_cases hk : i.val &&& 2 ^ l = 0 <;> simp [hb, hk, min_comm, max_comm]

/-- The stages `s - 1, …, 0` of level `l` of the sort, in that order. -/
def sortDown (l : Nat) : Nat → V 128 → V 128
  | 0, x => x
  | s + 1, x => sortDown l s (sortStage 128 (2 ^ s) (2 ^ l) x)

/-- The first `l` levels of the sort. -/
def sortLevels : Nat → V 128 → V 128
  | 0, x => x
  | l + 1, x => sortDown (l + 1) (l + 1) (sortLevels l x)

/-- The last stages of a level of the sort, on a row: the network's stages there. -/
theorem sortDown_row (l : Nat) (hl : l ≤ 31) : ∀ (s : Nat) (_ : s ≤ 7) (_ : s ≤ l) (x : V 128) (r : Fin 512),
    (row (sortDown l s x) r : Fin (2 ^ 7) → EReal)
      = Network.apply ((List.range s).reverse.flatMap fun s => stage 7 s fun i => decide (i.val &&& 2 ^ l = 0) == true) (row x r)
  | 0, _, _, _, _ => rfl
  | s + 1, h7, hl', x, r => by
    rw [List.range_succ, List.reverse_append, List.reverse_singleton, List.singleton_append, List.flatMap_cons, Network.apply_append,
      ← sortStage_row (p := 7) (by decide) (by omega) (by omega) hl x r]
    exact sortDown_row l hl s (by omega) (by omega) _ r

/-- The levels of the sort, on a row: the network's levels. -/
theorem sortLevels_row : ∀ (l : Nat) (_ : l ≤ 7) (x : V 128) (r : Fin 512),
    (row (sortLevels l x) r : Fin (2 ^ 7) → EReal) = Network.apply (levelsNet 7 true l) (row x r)
  | 0, _, _, _ => rfl
  | l + 1, h, x, r => by
    rw [levelsNet_succ, Network.apply_append, ← sortLevels_row l (by omega) x r]
    exact sortDown_row (l + 1) (by omega) (l + 1) h (Nat.le_refl _) _ r

/-- THE SORT OF A ROW: descending, and only a rearrangement of it. -/
theorem sortLevels_spec (x : V 128) (r : Fin 512) :
    Antitone (row (sortLevels 7 x) r) ∧ ∃ σ : Equiv.Perm (Fin 128), row (sortLevels 7 x) r = row x r ∘ σ := by
  have h : (row (sortLevels 7 x) r : Fin (2 ^ 7) → EReal) = Network.apply (sortNet 7 true) (row x r) :=
    sortLevels_row 7 (Nat.le_refl _) x r
  constructor
  · have := sortNet_apply_antitone 7 (row x r : Fin (2 ^ 7) → EReal)
    rw [← h] at this
    exact this
  · obtain ⟨σ, hσ⟩ := Network.exists_perm (sortNet 7 true) (row x r : Fin (2 ^ 7) → EReal)
    exact ⟨σ, h.trans hσ⟩

/-! ## The merge -/

/-- One stage of the merge on the keys: the greater of two lanes `a` apart to the upper one. -/
def mergeKey (a : Nat) (x : V 256) : V 256 :=
  if h : a ≤ 256 then
    select (bitOf 256 (iotas_lanes 256) (BitVec.ofNat 32 a)) (maximumf x (rollUp 256 a h x)) (minimumf x (rollDown 256 a h x))
  else x

/-- The same stage on the channel: a lane whose key stayed keeps its entry, and otherwise takes its partner's. -/
def mergeChan (a : Nat) (x c : V 256) : V 256 := select (cmpf .oeq (mergeKey a x) x) c (across 256 a c)

/-- A stage of the merge, read at a lane: the smaller key at the lower lane of a pair, the larger at the upper. -/
theorem mergeKey_row {s : Nat} (hs : s < 8) (x : V 256) (r : Fin 512) (i : Fin (2 ^ 8)) :
    row (mergeKey (2 ^ s) x) r i
      = if i.val &&& 2 ^ s = 0 then min (row x r i) (row x r (partner 8 s i)) else max (row x r i) (row x r (partner 8 s i)) := by
  have h1 : 2 ^ s ≤ 256 := (Nat.pow_le_pow_right (by decide : 2 > 0) hs.le : 2 ^ s ≤ 2 ^ 8)
  have h3 : 2 ^ s < 2 ^ 32 := Nat.pow_lt_pow_right (by decide) (by omega)
  unfold mergeKey
  rw [dif_pos h1]
  show Scalar.select _ (max (x (ix2 r i)) _) (min (x (ix2 r i)) _) = _
  have hbit := bitOf_apply (n := 256) (by decide) (iotas_lanes 256) (2 ^ s) h3 r i
  rw [hbit, select_ofBool]
  by_cases hb : i.val &&& 2 ^ s = 0
  · have hv := partner_val_of_clear hs i hb
    have hlt := (partner 8 s i).isLt
    have e := rollDown_lt (n := 256) h1 x r i (by have : 2 ^ 8 = 256 := rfl; omega)
    rw [decide_eq_false (not_not.mpr hb), if_neg (by decide), if_pos hb]
    refine congrArg (min (x (ix2 r i))) (e.trans ?_)
    exact congrArg (row x r) (Fin.ext hv.symm)
  · have hv := partner_val_of_set hs i hb
    have e := rollUp_ge (n := 256) h1 x r i hv.1
    rw [decide_eq_true hb, if_pos rfl, if_neg hb]
    refine congrArg (max (x (ix2 r i))) (e.trans ?_)
    exact congrArg (row x r) (Fin.ext hv.2.symm)

/-- The keys after a stage are the ascending exchange network's. -/
theorem mergeKey_stage {s : Nat} (hs : s < 8) (x : V 256) (r : Fin 512) :
    (row (mergeKey (2 ^ s) x) r : Fin (2 ^ 8) → EReal) = Network.apply (stage 8 s fun _ => false) (row x r) := by
  funext i
  refine (mergeKey_row hs x r i).trans ?_
  by_cases hb : i.val &&& 2 ^ s = 0
  · rw [if_pos hb, (apply_stage hs _ (row x r : Fin (2 ^ 8) → EReal) i hb).1]
    rfl
  · have hc := partner_and_of_set hs i hb
    have h := (apply_stage hs (fun _ => false) (row x r : Fin (2 ^ 8) → EReal) (partner 8 s i) hc).2
    rw [partner_partner hs] at h
    rw [if_neg hb, h, max_comm]
    rfl

/-- KEYS AND CHANNEL MOVE TOGETHER: one stage of the merge rearranges the pairs. -/
theorem merge_stage_perm {s : Nat} (hs : s < 8) (x c : V 256) (r : Fin 512) :
    ∃ σ : Equiv.Perm (Fin 256), row (mergeKey (2 ^ s) x) r = row x r ∘ σ ∧ row (mergeChan (2 ^ s) x c) r = row c r ∘ σ := by
  classical
  let f : Fin (2 ^ 8) → Fin (2 ^ 8) := fun i => if row (mergeKey (2 ^ s) x) r i = row x r i then i else partner 8 s i
  have swap : ∀ i : Fin (2 ^ 8), row (mergeKey (2 ^ s) x) r i = row x r i →
      row (mergeKey (2 ^ s) x) r (partner 8 s i) = row x r (partner 8 s i) := by
    intro i h
    rw [mergeKey_row hs] at h ⊢
    rw [partner_partner hs]
    by_cases hb : i.val &&& 2 ^ s = 0
    · have hb' : (partner 8 s i).val &&& 2 ^ s ≠ 0 := by
        rw [partner_and hs i hb]
        exact (Nat.two_pow_pos s).ne'
      rw [if_pos hb] at h
      rw [if_neg hb']
      exact max_eq_left (min_eq_left_iff.mp h)
    · have hb' := partner_and_of_set hs i hb
      rw [if_neg hb] at h
      rw [if_pos hb']
      exact min_eq_left (max_eq_left_iff.mp h)
  have hinv : Function.Involutive f := by
    intro i
    by_cases h : row (mergeKey (2 ^ s) x) r i = row x r i
    · have e : f i = i := if_pos h
      rw [e, e]
    · have e : f i = partner 8 s i := if_neg h
      have h' : ¬ row (mergeKey (2 ^ s) x) r (partner 8 s i) = row x r (partner 8 s i) := fun h' => by
        have := swap _ h'
        rw [partner_partner hs] at this
        exact h this
      rw [e]
      exact (if_neg h').trans (partner_partner hs i)
  refine ⟨hinv.toPerm, ?_, ?_⟩
  · funext i
    show _ = row x r (f i)
    by_cases h : row (mergeKey (2 ^ s) x) r i = row x r i
    · rw [show f i = i from if_pos h, h]
    · rw [show f i = partner 8 s i from if_neg h]
      rw [mergeKey_row hs] at h ⊢
      by_cases hb : i.val &&& 2 ^ s = 0
      · rw [if_pos hb] at h ⊢
        exact (min_choice _ _).resolve_left h
      · rw [if_neg hb] at h ⊢
        exact (max_choice _ _).resolve_left h
  · funext i
    show Scalar.select (BitVec.ofBool (decide (row (mergeKey (2 ^ s) x) r i = row x r i))) (row c r i) (across 256 (2 ^ s) c (ix2 r i)) = row c r (f i)
    have ea : across 256 (2 ^ s) c (ix2 r i) = row c r (partner 8 s i) := across_row (p := 8) (by decide) hs c r i
    rw [ea, select_ofBool]
    by_cases h : row (mergeKey (2 ^ s) x) r i = row x r i
    · rw [decide_eq_true h, show f i = i from if_pos h]
      rfl
    · rw [decide_eq_false h, show f i = partner 8 s i from if_neg h]
      rfl

/-- The stages `s - 1, …, 0` of the merge, on the keys. -/
def mergeDownKey : Nat → V 256 → V 256
  | 0, x => x
  | s + 1, x => mergeDownKey s (mergeKey (2 ^ s) x)

/-- The stages `s - 1, …, 0` of the merge, on the channel. -/
def mergeDownChan : Nat → V 256 → V 256 → V 256
  | 0, _, c => c
  | s + 1, x, c => mergeDownChan s (mergeKey (2 ^ s) x) (mergeChan (2 ^ s) x c)

/-- The last stages of the merge, on a row of keys: the network's stages. -/
theorem mergeDownKey_row : ∀ (s : Nat) (_ : s ≤ 8) (x : V 256) (r : Fin 512),
    (row (mergeDownKey s x) r : Fin (2 ^ 8) → EReal)
      = Network.apply ((List.range s).reverse.flatMap fun s => stage 8 s fun _ => false) (row x r)
  | 0, _, _, _ => rfl
  | s + 1, h8, x, r => by
    rw [List.range_succ, List.reverse_append, List.reverse_singleton, List.singleton_append, List.flatMap_cons, Network.apply_append,
      ← mergeKey_stage (by omega) x r]
    exact mergeDownKey_row s (by omega) _ r

/-- The merge rearranges the keys and the channel of a row alike. -/
theorem mergeDown_perm : ∀ (s : Nat) (_ : s ≤ 8) (x c : V 256) (r : Fin 512),
    ∃ σ : Equiv.Perm (Fin 256), row (mergeDownKey s x) r = row x r ∘ σ ∧ row (mergeDownChan s x c) r = row c r ∘ σ
  | 0, _, _, _, _ => ⟨Equiv.refl _, rfl, rfl⟩
  | s + 1, h8, x, c, r => by
    obtain ⟨σ, h1, h2⟩ := merge_stage_perm (s := s) (by omega) x c r
    obtain ⟨τ, h3, h4⟩ := mergeDown_perm s (by omega) (mergeKey (2 ^ s) x) (mergeChan (2 ^ s) x c) r
    refine ⟨τ.trans σ, ?_, ?_⟩
    · show row (mergeDownKey s _) r = _
      rw [h3, h1]
      rfl
    · show row (mergeDownChan s _ _) r = _
      rw [h4, h2]
      rfl

/-- THE MERGE OF A ROW that rises and then falls: its keys end in ascending order. -/
theorem mergeDownKey_monotone (x : V 256) (r : Fin 512) (h : DescAsc (row x r)) : Monotone (row (mergeDownKey 8 x) r) := by
  have e : (row (mergeDownKey 8 x) r : Fin (2 ^ 8) → EReal) = Network.apply (mergeAscNet 8) (row x r) :=
    mergeDownKey_row 8 (Nat.le_refl _) x r
  have := mergeAscNet_apply_monotone 8 (row x r : Fin (2 ^ 8) → EReal) h
  rw [← e] at this
  exact this

end Cert.Rows

end
-- ==== Proof.Scans.lean ====
/-
  The running sums, maxima and minima of the kernel on a block of 512 rows, each built by doubling
  the distance of a shift, and what they hold at a lane of a row.
-/
module

public import proofs.«01_k».proof.Proof.Stages

@[expose] public section

noncomputable section

namespace Cert.Rows

open Idealize.ShloMosaic

/-- The word of plus infinity is the top value. -/
theorem ofBits_inf : Ideal.ofBits .f32 0x7F800000#32 = (⊤ : EReal) := by
  show Ideal.ieee 8 23 (0x7F800000#32) = ⊤
  unfold Ideal.ieee
  rw [if_pos (by decide), if_pos (by decide), if_neg (by decide)]

/-- One step of the running maximum from the left: the value `d` lanes below, or 0 where there is none. -/
def leftMax (d : Nat) (x : V 192) : V 192 :=
  if h : d ≤ 192 then
    maximumf x (select (cmpi .slt (lane 192 (iotas_lanes 192)) (broadcast (W 192) (BitVec.ofNat 32 d)))
      (broadcast (W 192) (Scalar.ofBits (F := Ideal) .f32 0x00000000#32)) (rollUp 192 d h x))
  else x

/-- One step of the running minimum from the right: the value `d` lanes above, or infinity where there is none. -/
def rightMin (d : Nat) (x : V 192) : V 192 :=
  if h : d ≤ 192 then
    minimumf x (select (cmpi .sge (lane 192 (iotas_lanes 192)) (broadcast (W 192) (BitVec.ofNat 32 (192 - d))))
      (broadcast (W 192) (Scalar.ofBits (F := Ideal) .f32 0x7F800000#32)) (rollDown 192 d h x))
  else x

/-- One step of the running sum: the value `d` lanes below added, or 0 where there is none. -/
def sumStep (d : Nat) (x : V 64) : V 64 :=
  if h : d ≤ 64 then addf x (shiftUp 64 d h (Scalar.ofBits (F := Ideal) .f32 0x00000000#32) x) else x

/-- Steps at distances 1, 2, 4, …: the running maximum over `2 ^ s` lanes. -/
def maxScan : Nat → V 192 → V 192
  | 0, x => x
  | s + 1, x => leftMax (2 ^ s) (maxScan s x)

/-- Steps at distances 1, 2, 4, …: the running minimum over `2 ^ s` lanes. -/
def minScan : Nat → V 192 → V 192
  | 0, x => x
  | s + 1, x => rightMin (2 ^ s) (minScan s x)

/-- Steps at distances 1, 2, 4, …: the running sum over `2 ^ s` lanes. -/
def sumScan : Nat → V 64 → V 64
  | 0, x => x
  | s + 1, x => sumStep (2 ^ s) (sumScan s x)

/-- Two small words compare as the numbers they are. -/
theorem slt_small {i d : Nat} (hi : i < 2 ^ 31) (hd : d < 2 ^ 31) : (BitVec.ofNat 32 i).slt (BitVec.ofNat 32 d) = decide (i < d) := by
  rw [BitVec.slt_eq_decide, BitVec.toInt_eq_toNat_of_lt (by simp; omega), BitVec.toInt_eq_toNat_of_lt (by simp; omega)]
  simp [Nat.mod_eq_of_lt (show i < 4294967296 by omega), Nat.mod_eq_of_lt (show d < 4294967296 by omega)]

/-- A step of the running maximum, read at a lane. -/
theorem leftMax_row {d : Nat} (h : d ≤ 192) (x : V 192) (r : Fin 512) (i : Fin 192) :
    row (leftMax d x) r i = max (row x r i) (if hi : d ≤ i.val then row x r ⟨i.val - d, by omega⟩ else 0) := by
  unfold leftMax
  rw [dif_pos h]
  refine congrArg (max (x (ix2 r i))) ?_
  show Scalar.select (BitVec.ofBool ((lane 192 (iotas_lanes 192) (ix2 r i)).slt (BitVec.ofNat 32 d))) _ _ = _
  rw [lane_apply, slt_small (by omega) (by omega), select_ofBool]
  by_cases hi : d ≤ i.val
  · rw [decide_eq_false (by omega), if_neg (by decide), dif_pos hi]
    exact rollUp_ge h x r i hi
  · rw [decide_eq_true (by omega), if_pos rfl, dif_neg hi]
    exact Ideal.ofBits_zero_f32

/-- A step of the running minimum, read at a lane. -/
theorem rightMin_row {d : Nat} (h : d ≤ 192) (x : V 192) (r : Fin 512) (i : Fin 192) :
    row (rightMin d x) r i = min (row x r i) (if hi : i.val + d < 192 then row x r ⟨i.val + d, hi⟩ else ⊤) := by
  unfold rightMin
  rw [dif_pos h]
  refine congrArg (min (x (ix2 r i))) ?_
  show Scalar.select (BitVec.ofBool ((BitVec.ofNat 32 (192 - d)).sle (lane 192 (iotas_lanes 192) (ix2 r i)))) _ _ = _
  rw [lane_apply, BitVec.sle_eq_not_slt, slt_small (by omega) (by omega), select_ofBool]
  by_cases hi : i.val + d < 192
  · rw [decide_eq_true (by omega), if_neg (by decide), dif_pos hi]
    exact rollDown_lt h x r i hi
  · rw [decide_eq_false (by omega), if_pos (by decide), dif_neg hi]
    exact ofBits_inf

/-- A step of the running sum, read at a lane. -/
theorem sumStep_row {d : Nat} (h : d ≤ 64) (x : V 64) (r : Fin 512) (i : Fin 64) :
    row (sumStep d x) r i = row x r i + (if hi : d ≤ i.val then row x r ⟨i.val - d, by omega⟩ else 0) := by
  unfold sumStep
  rw [dif_pos h]
  refine congrArg (x (ix2 r i) + ·) ?_
  show shiftUp 64 d h _ x (ix2 r i) = _
  rw [shiftUp_apply]
  by_cases hi : d ≤ i.val
  · rw [dif_pos hi]
    simp [hi, row]
  · rw [dif_neg hi]
    simp [hi]

/-- THE RUNNING MAXIMUM of a row with no negative entry, by what bounds it. -/
theorem maxScan_le {x : V 192} {r : Fin 512} (h0 : ∀ j, 0 ≤ row x r j) : ∀ (s : Nat) (_ : s ≤ 8) (i : Fin 192) (y : EReal),
    row (maxScan s x) r i ≤ y ↔ ∀ j : Fin 192, j ≤ i → i.val < j.val + 2 ^ s → row x r j ≤ y
  | 0, _, i, y => by
    constructor
    · intro h j h1 h2
      have : j = i := Fin.ext (by have := Fin.le_def.mp h1; simp at h2; omega)
      rw [this]; exact h
    · intro h
      exact h i (le_refl _) (by simp)
  | s + 1, hs, i, y => by
    have hp : 2 ^ s ≤ 192 := le_trans (Nat.pow_le_pow_right (by decide : 2 > 0) (by omega : s ≤ 7)) (by decide)
    have hps : 2 ^ (s + 1) = 2 ^ s + 2 ^ s := by rw [Nat.pow_succ]; omega
    have ih := maxScan_le h0 s (by omega)
    show row (leftMax (2 ^ s) (maxScan s x)) r i ≤ y ↔ _
    rw [leftMax_row hp, max_le_iff, ih]
    constructor
    · rintro ⟨h1, h2⟩ j hj hlt
      have hj' := Fin.le_def.mp hj
      by_cases hnear : i.val < j.val + 2 ^ s
      · exact h1 j hj hnear
      · rw [dif_pos (by omega), ih] at h2
        exact h2 j (Fin.le_def.mpr (by show j.val ≤ i.val - 2 ^ s; omega)) (by show i.val - 2 ^ s < _; omega)
    · intro h
      refine ⟨fun j hj hlt => h j hj (by omega), ?_⟩
      split
      · rename_i hi
        rw [ih]
        intro j hj hlt
        have hj' : j.val ≤ i.val - 2 ^ s := Fin.le_def.mp hj
        have hlt' : i.val - 2 ^ s < j.val + 2 ^ s := hlt
        exact h j (Fin.le_def.mpr (by omega)) (by omega)
      · exact le_trans (h0 i) (h i (le_refl _) (by have := Nat.two_pow_pos (s + 1); omega))

/-- THE RUNNING MINIMUM of a row, by what bounds it. -/
theorem le_minScan {x : V 192} {r : Fin 512} : ∀ (s : Nat) (_ : s ≤ 8) (i : Fin 192) (y : EReal),
    y ≤ row (minScan s x) r i ↔ ∀ j : Fin 192, i ≤ j → j.val < i.val + 2 ^ s → y ≤ row x r j
  | 0, _, i, y => by
    constructor
    · intro h j h1 h2
      have : j = i := Fin.ext (by have := Fin.le_def.mp h1; simp at h2; omega)
      rw [this]; exact h
    · intro h
      exact h i (le_refl _) (by simp)
  | s + 1, hs, i, y => by
    have hp : 2 ^ s ≤ 192 := le_trans (Nat.pow_le_pow_right (by decide : 2 > 0) (by omega : s ≤ 7)) (by decide)
    have hps : 2 ^ (s + 1) = 2 ^ s + 2 ^ s := by rw [Nat.pow_succ]; omega
    have ih := le_minScan (x := x) (r := r) s (by omega)
    show y ≤ row (rightMin (2 ^ s) (minScan s x)) r i ↔ _
    rw [rightMin_row hp, le_min_iff, ih]
    constructor
    · rintro ⟨h1, h2⟩ j hj hlt
      have hj' := Fin.le_def.mp hj
      have hjlt := j.isLt
      by_cases hnear : j.val < i.val + 2 ^ s
      · exact h1 j hj hnear
      · rw [dif_pos (by omega), ih] at h2
        exact h2 j (Fin.le_def.mpr (by show i.val + 2 ^ s ≤ j.val; omega)) (by show _ < i.val + 2 ^ s + _; omega)
    · intro h
      refine ⟨fun j hj hlt => h j hj (by omega), ?_⟩
      split
      · rw [ih]
        intro j hj hlt
        have hj' : i.val + 2 ^ s ≤ j.val := Fin.le_def.mp hj
        have hlt' : j.val < i.val + 2 ^ s + 2 ^ s := hlt
        exact h j (Fin.le_def.mpr (by omega)) (by omega)
      · exact le_top

/-- The running sum over a window of `2 ^ s` lanes. -/
theorem sumScan_window (x : V 64) (r : Fin 512) : ∀ (s : Nat) (_ : s ≤ 6) (i : Fin 64),
    row (sumScan s x) r i = ∑ j : Fin 64 with j ≤ i ∧ i.val < j.val + 2 ^ s, row x r j
  | 0, _, i => by
    have e : (Finset.univ.filter fun j : Fin 64 => j ≤ i ∧ i.val < j.val + 2 ^ 0) = {i} := by
      ext j
      simp only [Finset.mem_filter, Finset.mem_univ, true_and, Finset.mem_singleton, Fin.le_def, Fin.ext_iff]
      omega
    rw [e, Finset.sum_singleton]
    rfl
  | s + 1, hs, i => by
    have hp : 2 ^ s ≤ 64 := le_trans (Nat.pow_le_pow_right (by decide : 2 > 0) (by omega : s ≤ 6)) (by decide)
    have hps : 2 ^ (s + 1) = 2 ^ s + 2 ^ s := by rw [Nat.pow_succ]; omega
    have ih := sumScan_window x r s (by omega)
    show row (sumStep (2 ^ s) (sumScan s x)) r i = _
    rw [sumStep_row hp, ih]
    by_cases hi : 2 ^ s ≤ i.val
    · rw [dif_pos hi, ih, ← Finset.sum_union]
      · refine Finset.sum_congr ?_ fun _ _ => rfl
        ext j
        simp only [Finset.mem_union, Finset.mem_filter, Finset.mem_univ, true_and, Fin.le_def]
        omega
      · rw [Finset.disjoint_left]
        intro j
        simp only [Finset.mem_filter, Finset.mem_univ, true_and, Fin.le_def]
        omega
    · rw [dif_neg hi, add_zero]
      refine Finset.sum_congr ?_ fun _ _ => rfl
      ext j
      simp only [Finset.mem_filter, Finset.mem_univ, true_and, Fin.le_def]
      have := j.isLt
      omega

/-- THE RUNNING SUM of a row. -/
theorem sumScan_row (x : V 64) (r : Fin 512) (i : Fin 64) : row (sumScan 6 x) r i = ∑ j : Fin 64 with j ≤ i, row x r j := by
  rw [sumScan_window x r 6 (Nat.le_refl _)]
  refine Finset.sum_congr ?_ fun _ _ => rfl
  ext j
  simp only [Finset.mem_filter, Finset.mem_univ, true_and, Fin.le_def]
  have := i.isLt
  omega

end Cert.Rows

end
-- ==== Proof.Printed.lean ====
/-
  The values the kernel's program computes, named as compositions of the stages: the cumulative
  weights, the sorted random numbers, the merged keys and channel, the running maxima and minima,
  and the depths.
-/
module

public import proofs.«01_k».proof.Proof.Scans
public import proofs.«01_k».proof.Proof.Gen.KernelIdeal.Frame

@[expose] public section

noncomputable section

namespace Cert.Rows

open Idealize.ShloMosaic Cert.KernelIdeal Cert.KernelIdeal.Gen

/-- A block filled with one constant. -/
abbrev fill (n : Nat) (b : BitVec 32) : V n := broadcast (W n) (Scalar.ofBits (F := Ideal) .f32 b)

/-- The weights of a block, each made positive by a small amount. -/
def weights (w : V 64) : V 64 := addf w (fill 64 0x3727C5AC#32)

/-- The weights of a block, normalized along each row. -/
def pdf (w : V 64) : V 64 :=
  divf (weights w)
    (broadcastTo S512x64 (shapeCast S512x1 (multiReduction .add [1] S512 (weights w) 0x00000000#32 reduces_S512x64_S512 (.inl rfl) rfl)
      shapeCasts_S512_S512x1) broadcasts_S512x1_S512x64)

/-- The cumulative weights before each lane. -/
def cdf (w : V 64) : V 64 := subf (sumScan 6 (pdf w)) (pdf w)

/-- The keys to be merged: the cumulative weights, a run of infinities, and the sorted random numbers. -/
def keysIn (c : V 64) (u : V 128) : V 256 :=
  concatenate S512x256 1 [⟨S512x64, c⟩, ⟨S512x64, fill 64 0x7F800000#32⟩, ⟨S512x128, u⟩] concatenates_S512x64_S512x64_S512x128_S512x256_d1

/-- The channel that travels with them: the coarse depths, and the mark -1 elsewhere. -/
def chanIn (t : V 64) : V 256 :=
  concatenate S512x256 1 [⟨S512x64, t⟩, ⟨S512x192, fill 192 0xBF800000#32⟩] concatenates_S512x64_S512x192_S512x256_d1

/-- The first 192 lanes of a block of 256. -/
def head (x : V 256) : V 192 := extractStridedSlice S512x192 ![0, 0] x slices_S512x256_o0_0_S512x192

/-- Where the channel holds a coarse depth. -/
def isCoarse (c : V 192) : IVec (W 192) 1 := cmpf .ogt c (fill 192 0x00000000#32)

/-- The depths, from the merged keys and channel. -/
def depths (key chan : V 192) : V 192 :=
  let cBelow := maxScan 8 (select (isCoarse chan) key (fill 192 0x00000000#32))
  let tLow := maxScan 8 (maximumf chan (fill 192 0x00000000#32))
  let cHigh := minScan 8 (select (isCoarse chan) key (fill 192 0x7F800000#32))
  let tHigh := minScan 8 (select (isCoarse chan) chan (fill 192 0x7F800000#32))
  let cAbove := select (cmpf .oeq cHigh (fill 192 0x7F800000#32)) cBelow cHigh
  let tAbove := select (cmpf .oeq tHigh (fill 192 0x7F800000#32)) tLow tHigh
  let tBelow := select (cmpf .ogt tLow (fill 192 0x00000000#32)) tLow tAbove
  let denom := subf cAbove cBelow
  select (isCoarse chan) chan
    (addf tBelow (mulf (divf (subf key cBelow) (select (cmpf .olt denom (fill 192 0x3727C5AC#32)) (fill 192 0x3F800000#32) denom))
      (subf tAbove tBelow)))

section Values
variable (x0 x1 : Vec Ideal S512x3 .f32) (x2 x3 : Vec Ideal S512x64 .f32) (x4 : Vec Ideal S512x128 .f32)

/-- The cumulative weights of the block. -/
theorem pay92_eq : k0_pay92 x0 x1 x2 x3 x4 = cdf (View.ld x2 r0_0) := rfl

/-- The first two levels of the sort: distances 1, then 2 and 1. -/
theorem pay93_eq : k0_pay93 x0 x1 x2 x3 x4
    = sortStage 128 1 4 (sortStage 128 2 4 (sortStage 128 1 2 (View.ld x4 r0_1))) := rfl

/-- The sort's level of 8 and the first two stages of its level of 16. -/
theorem pay94_eq : k0_pay94 x0 x1 x2 x3 x4
    = sortStage 128 4 16 (sortStage 128 8 16 (sortStage 128 1 8 (sortStage 128 2 8 (sortStage 128 4 8 (k0_pay93 x0 x1 x2 x3 x4))))) := rfl

/-- The rest of the sort's level of 16, its level of 32, and the first stage of its level of 64. -/
theorem pay101_eq : k0_pay101 x0 x1 x2 x3 x4
    = sortStage 128 32 64 (sortStage 128 1 32 (sortStage 128 2 32 (sortStage 128 4 32 (sortStage 128 8 32 (sortStage 128 16 32
        (sortStage 128 1 16 (sortStage 128 2 16 (k0_pay94 x0 x1 x2 x3 x4)))))))) := rfl

/-- The other stages of the sort's level of 64. -/
theorem pay106_eq : k0_pay106 x0 x1 x2 x3 x4
    = sortStage 128 1 64 (sortStage 128 2 64 (sortStage 128 4 64 (sortStage 128 8 64 (sortStage 128 16 64
        (k0_pay101 x0 x1 x2 x3 x4))))) := rfl

/-- The sort's level of 128 down to distance 4. -/
theorem pay113_eq : k0_pay113 x0 x1 x2 x3 x4
    = sortStage 128 4 128 (sortStage 128 8 128 (sortStage 128 16 128 (sortStage 128 32 128 (sortStage 128 64 128
        (k0_pay106 x0 x1 x2 x3 x4))))) := rfl

/-- THE SORTED RANDOM NUMBERS of the block. -/
theorem sorted_eq : sortStage 128 1 128 (sortStage 128 2 128 (k0_pay113 x0 x1 x2 x3 x4)) = sortLevels 7 (View.ld x4 r0_1) := by
  rw [pay113_eq, pay106_eq, pay101_eq, pay94_eq, pay93_eq]
  rfl

/-- The keys before the merge. -/
def keys (w : V 64) (u : V 128) : V 256 := keysIn (cdf w) (sortLevels 7 u)

/-- The keys after the merge's first stage. -/
theorem pay118_eq : k0_pay118 x0 x1 x2 x3 x4 = mergeKey 128 (keys (View.ld x2 r0_0) (View.ld x4 r0_1)) := by
  unfold keys
  rw [← sorted_eq x0 x1 x2 x3 x4, ← pay92_eq x0 x1 x2 x3 x4]
  rfl

/-- The keys after two more stages of the merge. -/
theorem pay119_eq : k0_pay119 x0 x1 x2 x3 x4 = mergeKey 32 (mergeKey 64 (k0_pay118 x0 x1 x2 x3 x4)) := rfl

/-- The keys after three more stages of the merge. -/
theorem pay125_eq : k0_pay125 x0 x1 x2 x3 x4 = mergeKey 4 (mergeKey 8 (mergeKey 16 (k0_pay119 x0 x1 x2 x3 x4))) := rfl

/-- THE MERGED KEYS of the block. -/
theorem pay128_eq : k0_pay128 x0 x1 x2 x3 x4 = head (mergeDownKey 8 (keys (View.ld x2 r0_0) (View.ld x4 r0_1))) := by
  have h : k0_pay128 x0 x1 x2 x3 x4 = head (mergeKey 1 (mergeKey 2 (k0_pay125 x0 x1 x2 x3 x4))) := rfl
  rw [h, pay125_eq, pay119_eq, pay118_eq]
  rfl

/-- The channel after three stages of the merge. -/
theorem pay120_eq : k0_pay120 x0 x1 x2 x3 x4
    = mergeChan 32 (mergeKey 64 (k0_pay118 x0 x1 x2 x3 x4)) (mergeChan 64 (k0_pay118 x0 x1 x2 x3 x4)
        (mergeChan 128 (keys (View.ld x2 r0_0) (View.ld x4 r0_1)) (chanIn (View.ld x3 r0_0)))) := by
  unfold keys
  rw [← sorted_eq x0 x1 x2 x3 x4, ← pay92_eq x0 x1 x2 x3 x4]
  rfl

/-- The channel after two more stages of the merge. -/
theorem pay123_eq : k0_pay123 x0 x1 x2 x3 x4
    = mergeChan 8 (mergeKey 16 (k0_pay119 x0 x1 x2 x3 x4)) (mergeChan 16 (k0_pay119 x0 x1 x2 x3 x4) (k0_pay120 x0 x1 x2 x3 x4)) := rfl

/-- THE MERGED CHANNEL of the block. -/
theorem pay129_eq : k0_pay129 x0 x1 x2 x3 x4
    = head (mergeDownChan 8 (keys (View.ld x2 r0_0) (View.ld x4 r0_1)) (chanIn (View.ld x3 r0_0))) := by
  have h : k0_pay129 x0 x1 x2 x3 x4
      = head (mergeChan 1 (mergeKey 2 (k0_pay125 x0 x1 x2 x3 x4)) (mergeChan 2 (k0_pay125 x0 x1 x2 x3 x4)
          (mergeChan 4 (mergeKey 8 (mergeKey 16 (k0_pay119 x0 x1 x2 x3 x4))) (k0_pay123 x0 x1 x2 x3 x4)))) := rfl
  rw [h, pay123_eq, pay120_eq, pay125_eq, pay119_eq, pay118_eq]
  rfl

/-- The depths, from the merged keys and the merged channel. -/
theorem pay133_depths : k0_pay133 x0 x1 x2 x3 x4 = depths (k0_pay128 x0 x1 x2 x3 x4) (k0_pay129 x0 x1 x2 x3 x4) := rfl

/-- THE DEPTHS OF THE BLOCK, from its weights, its coarse depths and its random numbers. -/
theorem pay133_eq : k0_pay133 x0 x1 x2 x3 x4
    = depths (head (mergeDownKey 8 (keys (View.ld x2 r0_0) (View.ld x4 r0_1))))
        (head (mergeDownChan 8 (keys (View.ld x2 r0_0) (View.ld x4 r0_1)) (chanIn (View.ld x3 r0_0)))) := by
  rw [pay133_depths, pay128_eq, pay129_eq]

end Values

end Cert.Rows

end
-- ==== Proof.Interp.lean ====
/-
  Interpolation in a row: the depth at a random number, from the cumulative weights and the coarse
  depths. It gives the coarse depth back at a cumulative weight, and it is monotone.
-/
module

public import Idealize.ShloMosaic.PureOps.Ideal

@[expose] public section

noncomputable section

namespace Cert.Rows

open Idealize.ShloMosaic

/-- Counting a downward closed set of positions gives its bound. -/
theorem lt_count_iff {n : Nat} (P : Fin n → Prop) [DecidablePred P] (h : ∀ i j, i ≤ j → P j → P i) (k : Fin n) :
    k.val < (Finset.univ.filter P).card ↔ P k := by
  constructor
  · intro hk
    by_contra hn
    have hsub : Finset.univ.filter P ⊆ Finset.Iio k := by
      intro j hj
      rw [Finset.mem_Iio]
      rcases lt_or_ge j k with hjk | hjk
      · exact hjk
      · exact absurd (h k j hjk (Finset.mem_filter.mp hj).2) hn
    have := Finset.card_le_card hsub
    rw [Fin.card_Iio] at this
    omega
  · intro hk
    have hsub : Finset.Iic k ⊆ Finset.univ.filter P := by
      intro j hj
      exact Finset.mem_filter.mpr ⟨Finset.mem_univ _, h j k (Finset.mem_Iic.mp hj) hk⟩
    have := Finset.card_le_card hsub
    rw [Fin.card_Iic] at this
    omega

/-- A position, or the last one. -/
def clip (n : Nat) : Fin 64 := ⟨min n 63, by omega⟩

/-- A position below 64 is left as it is. -/
theorem clip_val {n : Nat} (h : n < 64) : clip n = ⟨n, h⟩ := Fin.ext (by show min n 63 = n; omega)

/-- The point of the segment from `tl` to `th` where `x` lies between `cl` and `ch`; a gap below `e` counts as 1. -/
def interp (e cl ch tl th x : EReal) : EReal :=
  tl + Ideal.div (x - cl) (if ch - cl < e then 1 else ch - cl) * (th - tl)

/-- The interpolation when `n` of the cumulative weights count as not above `x`. -/
def interpAt (e : EReal) (c t : Fin 64 → EReal) (n : Nat) (x : EReal) : EReal :=
  interp e (c (clip (n - 1))) (c (clip n)) (t (clip (n - 1))) (t (clip n)) x

/-- How many cumulative weights are not above `x`. -/
def countLe (c : Fin 64 → EReal) (x : EReal) : Nat := (Finset.univ.filter fun k => c k ≤ x).card

/-- The depth at a random number `x`. -/
def depthAt (e : EReal) (c t : Fin 64 → EReal) (x : EReal) : EReal := interpAt e c t (countLe c x) x

/-- At most 64 cumulative weights are counted. -/
theorem countLe_le (c : Fin 64 → EReal) (x : EReal) : countLe c x ≤ 64 :=
  le_trans (Finset.card_le_univ _) (by simp)

/-- The count does not decrease with the random number. -/
theorem countLe_mono (c : Fin 64 → EReal) {x y : EReal} (h : x ≤ y) : countLe c x ≤ countLe c y :=
  Finset.card_le_card fun k hk => Finset.mem_filter.mpr ⟨Finset.mem_univ _, le_trans (Finset.mem_filter.mp hk).2 h⟩

/-- Between a depth and itself there is nothing to interpolate. -/
theorem interp_self (e cl ch x : EReal) (tl : ℝ) : interp e cl ch tl tl x = tl := by
  unfold interp
  rw [← EReal.coe_sub, sub_self, EReal.coe_zero, mul_zero, add_zero]

/-- The interpolation of real numbers is real. -/
theorem interp_coe {e : ℝ} (he : 0 < e) (cl ch tl th x : ℝ) :
    interp e cl ch tl th x = ((tl + (x - cl) / (if ch - cl < e then 1 else ch - cl) * (th - tl) : ℝ) : EReal) := by
  unfold interp
  have hd : (if (ch : EReal) - cl < e then (1 : EReal) else ch - cl) = ((if ch - cl < e then 1 else ch - cl : ℝ) : EReal) := by
    rw [← EReal.coe_sub]
    by_cases h : ch - cl < e
    · rw [if_pos h, if_pos (EReal.coe_lt_coe_iff.mpr h), EReal.coe_one]
    · rw [if_neg h, if_neg (fun h' => h (EReal.coe_lt_coe_iff.mp h'))]
  have hne : (if ch - cl < e then 1 else ch - cl : ℝ) ≠ 0 := by
    split
    · exact one_ne_zero
    · rename_i h
      exact (lt_of_lt_of_le he (not_lt.mp h)).ne'
  rw [hd, Ideal.div_coe hne, ← EReal.coe_sub, ← EReal.coe_sub, ← EReal.coe_mul, ← EReal.coe_mul, ← EReal.coe_add, mul_one_div]

section Row
variable {e : ℝ} {c t : Fin 64 → ℝ}

/-- A cumulative weight is among those counted exactly when it is not above `x`. -/
theorem le_countLe_iff (hc : StrictMono c) (k : Fin 64) (x : EReal) :
    k.val < countLe (fun k => (c k : EReal)) x ↔ (c k : EReal) ≤ x :=
  lt_count_iff _ (fun _ _ hij h => le_trans (EReal.coe_le_coe_iff.mpr (hc.monotone hij)) h) k

/-- AT A CUMULATIVE WEIGHT the depth is the coarse depth there. -/
theorem interpAt_succ_self (he : 0 < e) (k : Fin 64) :
    interpAt e (fun k => (c k : EReal)) (fun k => (t k : EReal)) (k.val + 1) (c k) = t k := by
  unfold interpAt
  rw [Nat.add_sub_cancel, clip_val k.isLt, interp_coe he, sub_self, zero_div, zero_mul, add_zero]

/-- At the cumulative weight `k` the count is `k + 1`. -/
theorem countLe_self (hc : StrictMono c) (k : Fin 64) : countLe (fun k => (c k : EReal)) (c k) = k.val + 1 := by
  have h1 := (le_countLe_iff hc k (c k)).mpr (le_refl _)
  have h3 := countLe_le (fun k => (c k : EReal)) (c k)
  rcases Nat.lt_or_ge (k.val + 1) (countLe (fun k => (c k : EReal)) (c k)) with h | h
  · have h2 := (le_countLe_iff hc ⟨k.val + 1, by omega⟩ (c k)).mp h
    have := hc.le_iff_le.mp (EReal.coe_le_coe_iff.mp h2)
    have := Fin.le_def.mp this
    simp at this
  · omega

/-- The depth at a cumulative weight is the coarse depth there. -/
theorem depthAt_self (he : 0 < e) (hc : StrictMono c) (k : Fin 64) :
    depthAt e (fun k => (c k : EReal)) (fun k => (t k : EReal)) (c k) = t k := by
  unfold depthAt
  rw [countLe_self hc, interpAt_succ_self he]

/-- Reaching the next cumulative weight from below, across a gap that is not small, gives the coarse depth there. -/
theorem interpAt_reach (he : 0 < e) (k : Fin 64) (hgap : ∀ h : 0 < k.val, e ≤ c k - c ⟨k.val - 1, by omega⟩) :
    interpAt e (fun k => (c k : EReal)) (fun k => (t k : EReal)) k.val (c k) = t k := by
  unfold interpAt
  rw [clip_val k.isLt, clip_val (show k.val - 1 < 64 by omega)]
  by_cases h0 : 0 < k.val
  · have hg := hgap h0
    rw [interp_coe he, if_neg (not_lt.mpr hg), div_self (lt_of_lt_of_le he hg).ne', one_mul, add_sub_cancel]
  · have : (⟨k.val - 1, by omega⟩ : Fin 64) = k := Fin.ext (by show k.val - 1 = k.val; omega)
    rw [this]
    exact interp_self _ _ _ _ _

/-- The depth between two coarse depths, where the random number is finite and between their cumulative weights. -/
theorem depth_between (he : 0 < e) (he1 : e ≤ 1) (ht : Monotone t) {cl ch x : ℝ} {a b : Fin 64} (hab : a ≤ b) (hcl : cl ≤ x) (hch : x < ch) :
    t a ≤ t a + (x - cl) / (if ch - cl < e then 1 else ch - cl) * (t b - t a) ∧
      t a + (x - cl) / (if ch - cl < e then 1 else ch - cl) * (t b - t a) ≤ t b := by
  have hd : 0 < (if ch - cl < e then 1 else ch - cl) := by
    split
    · exact one_pos
    · linarith
  have hx : x - cl ≤ (if ch - cl < e then 1 else ch - cl) := by
    split <;> linarith
  have hf0 : 0 ≤ (x - cl) / (if ch - cl < e then 1 else ch - cl) := div_nonneg (by linarith) hd.le
  have hf1 : (x - cl) / (if ch - cl < e then 1 else ch - cl) ≤ 1 := (div_le_one hd).mpr hx
  have htab : 0 ≤ t b - t a := sub_nonneg.mpr (ht hab)
  constructor
  · nlinarith
  · nlinarith

/-- With every cumulative weight above it or none, the depth is the first or the last coarse depth. -/
theorem interpAt_end {n : Nat} (hn : n = 0 ∨ n = 64) (x : EReal) :
    interpAt e (fun k => (c k : EReal)) (fun k => (t k : EReal)) n x = t (clip n) := by
  unfold interpAt
  have : clip (n - 1) = clip n := by
    rcases hn with rfl | rfl <;> rfl
  rw [this]
  exact interp_self _ _ _ _ _

/-- Strictly inside the cumulative weights the random number is a real number between two of them. -/
theorem countLe_inside (hc : StrictMono c) {x : EReal} (h0 : 0 < countLe (fun k => (c k : EReal)) x)
    (h1 : countLe (fun k => (c k : EReal)) x < 64) :
    ∃ y : ℝ, x = y ∧ c (clip (countLe (fun k => (c k : EReal)) x - 1)) ≤ y ∧ y < c (clip (countLe (fun k => (c k : EReal)) x)) := by
  have hlo := (le_countLe_iff hc ⟨countLe (fun k => (c k : EReal)) x - 1, by omega⟩ x).mp (by show _ - 1 < _; omega)
  have hhi := (le_countLe_iff hc ⟨countLe (fun k => (c k : EReal)) x, h1⟩ x).not.mp (lt_irrefl _)
  rw [not_le] at hhi
  induction x with
  | bot => exact absurd hlo (not_le.mpr (EReal.bot_lt_coe _))
  | top => exact absurd hhi not_top_lt
  | coe y =>
    refine ⟨y, rfl, ?_, ?_⟩
    · rw [clip_val (by omega)]
      exact EReal.coe_le_coe_iff.mp hlo
    · rw [clip_val h1]
      exact EReal.coe_lt_coe_iff.mp hhi

/-- The depth lies between the coarse depths on either side. -/
theorem depthAt_bounds (he : 0 < e) (he1 : e ≤ 1) (hc : StrictMono c) (ht : Monotone t) (x : EReal) :
    (t (clip (countLe (fun k => (c k : EReal)) x - 1)) : EReal) ≤ depthAt e (fun k => (c k : EReal)) (fun k => (t k : EReal)) x ∧
      depthAt e (fun k => (c k : EReal)) (fun k => (t k : EReal)) x ≤ t (clip (countLe (fun k => (c k : EReal)) x)) := by
  have hle := countLe_le (fun k => (c k : EReal)) x
  by_cases hn : countLe (fun k => (c k : EReal)) x = 0 ∨ countLe (fun k => (c k : EReal)) x = 64
  · unfold depthAt
    rw [interpAt_end hn]
    have : clip (countLe (fun k => (c k : EReal)) x - 1) = clip (countLe (fun k => (c k : EReal)) x) := by
      rcases hn with h | h <;> rw [h] <;> rfl
    rw [this]
    exact ⟨le_refl _, le_refl _⟩
  · rw [not_or] at hn
    obtain ⟨y, hy, hlo, hhi⟩ := countLe_inside hc (x := x) (by omega) (by omega)
    unfold depthAt interpAt
    generalize countLe (fun k => (c k : EReal)) x = n at *
    subst hy
    have hb := depth_between he he1 ht (a := clip (n - 1)) (b := clip n)
      (Fin.le_def.mpr (by show min (n - 1) 63 ≤ min n 63; omega)) hlo hhi
    rw [interp_coe he]
    exact ⟨EReal.coe_le_coe_iff.mpr hb.1, EReal.coe_le_coe_iff.mpr hb.2⟩

/-- THE DEPTH IS MONOTONE in the random number. -/
theorem depthAt_mono (he : 0 < e) (he1 : e ≤ 1) (hc : StrictMono c) (ht : Monotone t) :
    Monotone (depthAt e (fun k => (c k : EReal)) (fun k => (t k : EReal))) := by
  intro x y hxy
  have hxle := countLe_le (fun k => (c k : EReal)) x
  have hyle := countLe_le (fun k => (c k : EReal)) y
  rcases Nat.lt_or_ge (countLe (fun k => (c k : EReal)) x) (countLe (fun k => (c k : EReal)) y) with h | h
  · refine le_trans (depthAt_bounds he he1 hc ht x).2 (le_trans ?_ (depthAt_bounds he he1 hc ht y).1)
    refine EReal.coe_le_coe_iff.mpr (ht (Fin.le_def.mpr ?_))
    show min _ 63 ≤ min _ 63
    omega
  · have heq := le_antisymm (countLe_mono (fun k => (c k : EReal)) hxy) h
    by_cases hn : countLe (fun k => (c k : EReal)) x = 0 ∨ countLe (fun k => (c k : EReal)) x = 64
    · unfold depthAt
      rw [interpAt_end hn, ← heq, interpAt_end hn]
    · rw [not_or] at hn
      obtain ⟨p, hp, hplo, hphi⟩ := countLe_inside hc (x := x) (by omega) (by omega)
      obtain ⟨q, hq, hqlo, hqhi⟩ := countLe_inside hc (x := y) (by omega) (by omega)
      unfold depthAt interpAt
      rw [← heq] at hqlo hqhi ⊢
      generalize countLe (fun k => (c k : EReal)) x = n at *
      subst hp hq
      have hpq : p ≤ q := EReal.coe_le_coe_iff.mp hxy
      rw [interp_coe he, interp_coe he]
      refine EReal.coe_le_coe_iff.mpr ?_
      have htab : 0 ≤ t (clip n) - t (clip (n - 1)) := sub_nonneg.mpr (ht (Fin.le_def.mpr (by show min (n - 1) 63 ≤ min n 63; omega)))
      have hd : 0 < (if c (clip n) - c (clip (n - 1)) < e then 1 else c (clip n) - c (clip (n - 1))) := by
        split
        · exact one_pos
        · linarith
      have := div_le_div_of_nonneg_right (show p - c (clip (n - 1)) ≤ q - c (clip (n - 1)) by linarith) hd.le
      nlinarith

end Row

end Cert.Rows

end
-- ==== Proof.Depths.lean ====
/-
  The depths of the kernel on one row, from the merged keys and channel: at every lane the
  interpolation at the lane's key.
-/
module

public import proofs.«01_k».proof.Proof.Printed
public import proofs.«01_k».proof.Proof.Interp

@[expose] public section

noncomputable section

namespace Cert.Rows

open Idealize.ShloMosaic

/-- The small amount, as a real number. -/
def small : ℝ := (2 ^ 23 + 2606508 : Nat) * (2 : ℝ) ^ (-40 : Int)

/-- The float word of the kernel's 1e-5 is `small`. -/
theorem ofBits_small : Ideal.ofBits .f32 0x3727C5AC#32 = (small : EReal) := by
  show Ideal.ieee 8 23 (0x3727C5AC#32) = _
  unfold Ideal.ieee small
  rw [if_neg (by decide), if_neg (by decide), if_neg (by decide), one_mul]
  rfl

/-- `small` is positive. -/
theorem small_pos : 0 < small := by unfold small; positivity

/-- `small` is at most 1. -/
theorem small_le_one : small ≤ 1 := by unfold small; norm_num

/-- The running maximum at a lane is the greatest entry up to it. -/
theorem maxScan_eq {x : V 192} {r : Fin 512} (h0 : ∀ j, 0 ≤ row x r j) {p q : Fin 192} (hq : q ≤ p)
    (h : ∀ j ≤ p, row x r j ≤ row x r q) : row (maxScan 8 x) r p = row x r q := by
  refine le_antisymm ((maxScan_le h0 8 (Nat.le_refl _) p _).mpr fun j hj _ => h j hj) ?_
  exact (maxScan_le h0 8 (Nat.le_refl _) p _).mp (le_refl _) q hq (by have := p.isLt; omega)

/-- The running minimum at a lane is the least entry from it on. -/
theorem minScan_eq {x : V 192} {r : Fin 512} {p q : Fin 192} (hq : p ≤ q)
    (h : ∀ j, p ≤ j → row x r q ≤ row x r j) : row (minScan 8 x) r p = row x r q := by
  refine le_antisymm ?_ ((le_minScan 8 (Nat.le_refl _) p _).mpr fun j hj _ => h j hj)
  exact (le_minScan 8 (Nat.le_refl _) p _).mp (le_refl _) q hq (by have := q.isLt; omega)

/-- A choice by the channel, read at a lane: the first value where the channel is positive. -/
theorem row_isCoarse (chan a b : V 192) (r : Fin 512) (p : Fin 192) :
    row (select (isCoarse chan) a b) r p = if 0 < row chan r p then row a r p else row b r p := by
  show Scalar.select (BitVec.ofBool (decide (Ideal.ofBits .f32 0x00000000#32 < row chan r p))) _ _ = _
  rw [select_ofBool, Ideal.ofBits_zero_f32]
  simp only [decide_eq_true_eq]
  rfl

/-- The depth at a lane from the four running values there. -/
theorem depths_apply (key chan : V 192) (r : Fin 512) (p : Fin 192) {cB tL cH tH : EReal}
    (hcB : row (maxScan 8 (select (isCoarse chan) key (fill 192 0x00000000#32))) r p = cB)
    (htL : row (maxScan 8 (maximumf chan (fill 192 0x00000000#32))) r p = tL)
    (hcH : row (minScan 8 (select (isCoarse chan) key (fill 192 0x7F800000#32))) r p = cH)
    (htH : row (minScan 8 (select (isCoarse chan) chan (fill 192 0x7F800000#32))) r p = tH) :
    row (depths key chan) r p
      = if 0 < row chan r p then row chan r p else
          interp small cB (if cH = ⊤ then cB else cH) (if 0 < tL then tL else if tH = ⊤ then tL else tH) (if tH = ⊤ then tL else tH)
            (row key r p) := by
  unfold depths
  rw [row_isCoarse]
  congr 1
  subst hcB htL hcH htH
  show (_ + Ideal.div (_ - _) _ * (_ - _) : EReal) = _
  unfold interp
  have hsel : ∀ (b : Bool) (x y : EReal), Scalar.select (BitVec.ofBool b) x y = if b = true then x else y := fun b x y => select_ofBool b x y
  have e1 : ∀ (a b x : V 192), select (cmpf .oeq x (fill 192 0x7F800000#32)) a b (ix2 r p) = if row x r p = ⊤ then row a r p else row b r p := by
    intro a b x
    show Scalar.select (BitVec.ofBool (decide (row x r p = Ideal.ofBits .f32 0x7F800000#32))) _ _ = _
    rw [hsel, ofBits_inf]
    simp only [decide_eq_true_eq]
    rfl
  have e2 : ∀ (a b x : V 192), select (cmpf .ogt x (fill 192 0x00000000#32)) a b (ix2 r p) = if 0 < row x r p then row a r p else row b r p :=
    fun a b x => row_isCoarse x a b r p
  have e3 : ∀ (x : V 192), select (cmpf .olt x (fill 192 0x3727C5AC#32)) (fill 192 0x3F800000#32) x (ix2 r p)
      = if row x r p < small then 1 else row x r p := by
    intro x
    show Scalar.select (BitVec.ofBool (decide (row x r p < Ideal.ofBits .f32 0x3727C5AC#32))) (Ideal.ofBits .f32 0x3F800000#32) _ = _
    rw [hsel, ofBits_small, Ideal.ofBits_one_f32]
    simp only [decide_eq_true_eq]
    rfl
  rw [e2, e1, e3]
  have e4 : ∀ (x y : V 192), row (subf x y) r p = row x r p - row y r p := fun _ _ => rfl
  rw [e4]
  have e5 : ∀ (a b x : V 192), row (select (cmpf .oeq x (fill 192 0x7F800000#32)) a b) r p = if row x r p = ⊤ then row a r p else row b r p := e1
  rw [e5, e5]
  rfl

section Row
variable {c t : Fin 64 → ℝ} {key chan : V 192} {r : Fin 512} {pos : Fin 64 → Fin 192}

/-- THE DEPTHS OF A ROW: at every lane the interpolation at its key. The coarse entries lie, in order,
    at the lanes `pos k`; the keys ascend; and no other lane's key is a cumulative weight reached
    across a small gap. -/
theorem depths_row (hc : StrictMono c) (hc0 : c 0 = 0) (ht0 : ∀ k, 0 < t k)
    (ht : Monotone t) (hpos : StrictMono pos) (hmono : Monotone (row key r)) (hkey : ∀ k, row key r (pos k) = c k)
    (hchan : ∀ k, row chan r (pos k) = t k) (hrest : ∀ p, (∀ k, pos k ≠ p) → row chan r p ≤ 0)
    (htie : ∀ p, (∀ k, pos k ≠ p) → ∀ k : Fin 64, row key r p = c k → ∀ h : 0 < k.val, small ≤ c k - c ⟨k.val - 1, by omega⟩)
    (p : Fin 192) :
    row (depths key chan) r p = depthAt small (fun k => (c k : EReal)) (fun k => (t k : EReal)) (row key r p) := by
  have hc_nonneg : ∀ k, 0 ≤ c k := fun k => hc0 ▸ hc.monotone (Fin.zero_le k)
  have hcE : ∀ k, (0 : EReal) ≤ c k := fun k => EReal.coe_nonneg.mpr (hc_nonneg k)
  have htE : ∀ k, (0 : EReal) < t k := fun k => EReal.coe_pos.mpr (ht0 k)
  by_cases hp : ∃ k, pos k = p
  · obtain ⟨k, rfl⟩ := hp
    rw [depths_apply key chan r (pos k) rfl rfl rfl rfl, hchan, if_pos (htE k), hkey]
    exact (depthAt_self small_pos hc k).symm
  · have hp' : ∀ k, pos k ≠ p := fun k h => hp ⟨k, h⟩
    -- how many coarse entries lie to the left
    obtain ⟨n, hn⟩ : ∃ n, n = (Finset.univ.filter fun k => pos k ≤ p).card := ⟨_, rfl⟩
    have hcount : ∀ k : Fin 64, k.val < n ↔ pos k ≤ p := by
      intro k
      rw [hn]
      exact lt_count_iff _ (fun i j hij h => le_trans (hpos.monotone hij) h) k
    have hn64 : n ≤ 64 := hn ▸ le_trans (Finset.card_le_univ _) (by simp)
    -- the entries the scans start from
    have hsel : ∀ (a : V 192) (b : BitVec 32) (j : Fin 192),
        (∃ k, pos k = j ∧ row (select (isCoarse chan) a (fill 192 b)) r j = row a r j) ∨
          ((∀ k, pos k ≠ j) ∧ row (select (isCoarse chan) a (fill 192 b)) r j = Ideal.ofBits .f32 b) := by
      intro a b j
      by_cases hj : ∃ k, pos k = j
      · obtain ⟨k, rfl⟩ := hj
        exact Or.inl ⟨k, rfl, by rw [row_isCoarse, hchan, if_pos (htE k)]⟩
      · have hj' : ∀ k, pos k ≠ j := fun k h => hj ⟨k, h⟩
        exact Or.inr ⟨hj', by rw [row_isCoarse, if_neg (not_lt.mpr (hrest j hj'))]; rfl⟩
    have hselc : ∀ (a : V 192) (b : BitVec 32) (k : Fin 64), row (select (isCoarse chan) a (fill 192 b)) r (pos k) = row a r (pos k) := by
      intro a b k
      rw [row_isCoarse, hchan, if_pos (htE k)]
    have hmax : ∀ j, (∃ k, pos k = j ∧ row (maximumf chan (fill 192 0x00000000#32)) r j = t k) ∨
        ((∀ k, pos k ≠ j) ∧ row (maximumf chan (fill 192 0x00000000#32)) r j = 0) := by
      intro j
      have e : row (maximumf chan (fill 192 0x00000000#32)) r j = max (row chan r j) 0 := by
        show max (row chan r j) (Ideal.ofBits .f32 0x00000000#32) = _
        rw [Ideal.ofBits_zero_f32]
      by_cases hj : ∃ k, pos k = j
      · obtain ⟨k, rfl⟩ := hj
        exact Or.inl ⟨k, rfl, by rw [e, hchan, max_eq_left (htE k).le]⟩
      · have hj' : ∀ k, pos k ≠ j := fun k h => hj ⟨k, h⟩
        exact Or.inr ⟨hj', by rw [e, max_eq_right (hrest j hj')]⟩
    have hmaxc : ∀ k, row (maximumf chan (fill 192 0x00000000#32)) r (pos k) = t k := by
      intro k
      rcases hmax (pos k) with ⟨k', hk', h⟩ | ⟨h, _⟩
      · rw [h, hpos.injective hk']
      · exact absurd rfl (h k)
    have hK0 : ∀ j, 0 ≤ row (select (isCoarse chan) key (fill 192 0x00000000#32)) r j := by
      intro j
      rcases hsel key 0x00000000#32 j with ⟨k, rfl, h⟩ | ⟨_, h⟩
      · rw [h, hkey]; exact hcE k
      · rw [h, Ideal.ofBits_zero_f32]
    have hM0 : ∀ j, 0 ≤ row (maximumf chan (fill 192 0x00000000#32)) r j := by
      intro j
      rcases hmax j with ⟨k, rfl, h⟩ | ⟨_, h⟩
      · rw [h]; exact (htE k).le
      · rw [h]
    -- the four scans
    have hcB : row (maxScan 8 (select (isCoarse chan) key (fill 192 0x00000000#32))) r p = if n = 0 then 0 else (c (clip (n - 1)) : EReal) := by
      by_cases h0 : n = 0
      · rw [if_pos h0]
        have hno : ∀ j ≤ p, row (select (isCoarse chan) key (fill 192 0x00000000#32)) r j = 0 := by
          intro j hj
          rcases hsel key 0x00000000#32 j with ⟨k, rfl, _⟩ | ⟨_, h⟩
          · have := (hcount k).mpr hj
            omega
          · rw [h, Ideal.ofBits_zero_f32]
        rw [maxScan_eq hK0 (le_refl p) fun j hj => by rw [hno j hj, hno p (le_refl p)], hno p (le_refl p)]
      · have hlt : n - 1 < 64 := by omega
        rw [if_neg h0, clip_val hlt]
        have hle : pos ⟨n - 1, hlt⟩ ≤ p := (hcount _).mp (by show n - 1 < n; omega)
        rw [maxScan_eq hK0 hle ?_, hselc, hkey]
        intro j hj
        rw [hselc, hkey]
        rcases hsel key 0x00000000#32 j with ⟨k, rfl, h⟩ | ⟨_, h⟩
        · rw [h, hkey]
          exact EReal.coe_le_coe_iff.mpr (hc.monotone (Fin.le_def.mpr (by have := (hcount k).mpr hj; show k.val ≤ n - 1; omega)))
        · rw [h, Ideal.ofBits_zero_f32]
          exact hcE _
    have htL : row (maxScan 8 (maximumf chan (fill 192 0x00000000#32))) r p = if n = 0 then 0 else (t (clip (n - 1)) : EReal) := by
      by_cases h0 : n = 0
      · rw [if_pos h0]
        have hno : ∀ j ≤ p, row (maximumf chan (fill 192 0x00000000#32)) r j = 0 := by
          intro j hj
          rcases hmax j with ⟨k, rfl, _⟩ | ⟨_, h⟩
          · have := (hcount k).mpr hj
            omega
          · exact h
        rw [maxScan_eq hM0 (le_refl p) fun j hj => by rw [hno j hj, hno p (le_refl p)], hno p (le_refl p)]
      · have hlt : n - 1 < 64 := by omega
        rw [if_neg h0, clip_val hlt]
        have hle : pos ⟨n - 1, hlt⟩ ≤ p := (hcount _).mp (by show n - 1 < n; omega)
        rw [maxScan_eq hM0 hle ?_, hmaxc]
        intro j hj
        rw [hmaxc]
        rcases hmax j with ⟨k, rfl, h⟩ | ⟨_, h⟩
        · rw [h]
          exact EReal.coe_le_coe_iff.mpr (ht (Fin.le_def.mpr (by have := (hcount k).mpr hj; show k.val ≤ n - 1; omega)))
        · rw [h]
          exact (htE _).le
    have hmin : ∀ (a : V 192) (f : Fin 64 → ℝ) (_ : Monotone f) (_ : ∀ k, row a r (pos k) = f k),
        row (minScan 8 (select (isCoarse chan) a (fill 192 0x7F800000#32))) r p = if n = 64 then ⊤ else (f (clip n) : EReal) := by
      intro a f hf ha
      by_cases h0 : n = 64
      · rw [if_pos h0]
        have hno : ∀ j, p ≤ j → row (select (isCoarse chan) a (fill 192 0x7F800000#32)) r j = ⊤ := by
          intro j hj
          rcases hsel a 0x7F800000#32 j with ⟨k, rfl, _⟩ | ⟨_, h⟩
          · have := (hcount k).mp (by have := k.isLt; omega)
            exact absurd (le_antisymm this hj) (hp' k)
          · rw [h, ofBits_inf]
        rw [minScan_eq (le_refl p) fun j hj => by rw [hno j hj, hno p (le_refl p)], hno p (le_refl p)]
      · have hlt : n < 64 := by omega
        rw [if_neg h0, clip_val hlt]
        have hle : p ≤ pos ⟨n, hlt⟩ := by
          have := (hcount ⟨n, hlt⟩).not.mp (lt_irrefl _)
          exact (not_le.mp this).le
        rw [minScan_eq hle ?_, hselc, ha]
        intro j hj
        rw [hselc, ha]
        rcases hsel a 0x7F800000#32 j with ⟨k, rfl, h⟩ | ⟨_, h⟩
        · rw [h, ha]
          refine EReal.coe_le_coe_iff.mpr (hf (Fin.le_def.mpr ?_))
          have := (hcount k).not.mpr (not_le.mpr (lt_of_le_of_ne hj fun h => hp' k h.symm))
          show n ≤ k.val
          omega
        · rw [h, ofBits_inf]
          exact le_top
    have hcH := hmin key c hc.monotone hkey
    have htH := hmin chan t ht hchan
    -- together: the interpolation with `n` cumulative weights to the left
    have hval : row (depths key chan) r p = interpAt small (fun k => (c k : EReal)) (fun k => (t k : EReal)) n (row key r p) := by
      rw [depths_apply key chan r p hcB htL hcH htH, if_neg (not_lt.mpr (hrest p hp'))]
      rcases Nat.eq_zero_or_pos n with rfl | hpos'
      · rw [interpAt_end (Or.inl rfl)]
        simp only [if_true, if_neg (show ¬ (0 : Nat) = 64 by decide), lt_irrefl, if_false, EReal.coe_ne_top]
        exact interp_self _ _ _ _ _
      · rw [if_neg (show ¬ n = 0 by omega), if_neg (show ¬ n = 0 by omega)]
        by_cases h64 : n = 64
        · subst h64
          rw [interpAt_end (Or.inr rfl)]
          simp only [if_true, ite_self]
          exact interp_self _ _ _ _ _
        · simp only [if_neg h64, EReal.coe_ne_top, if_false, if_pos (htE _)]
          rfl
    -- the count of the cumulative weights not above the key is `n` or `n + 1`
    rw [hval]
    have hle : n ≤ countLe (fun k => (c k : EReal)) (row key r p) := by
      rcases Nat.eq_zero_or_pos n with h0 | h0
      · omega
      · have h1 : pos ⟨n - 1, by omega⟩ ≤ p := (hcount _).mp (by show n - 1 < n; omega)
        have h2 := hmono h1
        rw [hkey] at h2
        have : n - 1 < _ := (le_countLe_iff hc _ _).mpr h2
        omega
    rcases Nat.eq_or_lt_of_le hle with h | h
    · unfold depthAt
      rw [← h]
    · have hn' : n < 64 := lt_of_lt_of_le h (countLe_le _ _)
      have h1 := (le_countLe_iff hc ⟨n, hn'⟩ _).mp h
      have h2 : p ≤ pos ⟨n, hn'⟩ := (not_le.mp ((hcount ⟨n, hn'⟩).not.mp (lt_irrefl _))).le
      have h3 := hmono h2
      rw [hkey] at h3
      have h4 : row key r p = c ⟨n, hn'⟩ := le_antisymm h3 h1
      rw [h4, depthAt_self small_pos hc]
      exact interpAt_reach small_pos ⟨n, hn'⟩ (htie p hp' ⟨n, hn'⟩ h4)

end Row

end Cert.Rows

end
-- ==== Proof.Cdf.lean ====
/-
  The cumulative distribution of a row of weights, as real numbers: what each weight's share is, what the shares
  before a position add up to, and that these sums ascend strictly from zero.
-/
module

public import proofs.«01_k».proof.Proof.Printed
public import proofs.«01_k».proof.Proof.Depths

@[expose] public section

noncomputable section

namespace Cert.Rows

open Idealize.ShloMosaic

/-- The smoothed weights of a row are positive and finite. -/
def Positive (w : Fin 64 → EReal) : Prop := ∀ j, 0 < w j + (small : EReal) ∧ w j + (small : EReal) < ⊤

/-- The smoothed weight at position `j`, as a real number. -/
def mass (w : Fin 64 → EReal) (j : Fin 64) : ℝ := (w j + (small : EReal)).toReal

/-- The share of position `k` in the row's total. -/
def share (w : Fin 64 → EReal) (k : Fin 64) : ℝ := mass w k / ∑ j, mass w j

/-- The shares of the first `n` positions added up. -/
def upTo (w : Fin 64 → EReal) (n : ℕ) : ℝ := ∑ j : Fin 64 with j.val < n, share w j

variable {w : Fin 64 → EReal}

/-- A smoothed weight is the real number read of it. -/
theorem mass_coe (h : Positive w) (j : Fin 64) : w j + (small : EReal) = (mass w j : EReal) :=
  (EReal.coe_toReal (h j).2.ne (ne_bot_of_gt (h j).1)).symm

/-- Smoothed weights are positive. -/
theorem mass_pos (h : Positive w) (j : Fin 64) : 0 < mass w j := by
  have := (h j).1
  rw [mass_coe h j] at this
  exact_mod_cast this

/-- The total of a row is positive. -/
theorem total_pos (h : Positive w) : 0 < ∑ j, mass w j :=
  Finset.sum_pos (fun j _ => mass_pos h j) ⟨0, Finset.mem_univ _⟩

/-- Shares are positive. -/
theorem share_pos (h : Positive w) (k : Fin 64) : 0 < share w k := div_pos (mass_pos h k) (total_pos h)

/-- A finite sum of real numbers, summed as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A smoothed weight divided by the row's total is its share. -/
theorem share_coe (h : Positive w) (k : Fin 64) :
    Ideal.div (w k + (small : EReal)) (∑ j, (w j + (small : EReal))) = (share w k : EReal) := by
  rw [mass_coe h k, Finset.sum_congr rfl fun j _ => mass_coe h j, coe_sum, Ideal.div_coe (total_pos h).ne', ← EReal.coe_mul]
  rw [share, mul_one_div]

/-- No share lies before the first position. -/
theorem upTo_zero (w : Fin 64 → EReal) : upTo w 0 = 0 := by simp [upTo]

/-- The next sum adds the next share. -/
theorem upTo_succ (w : Fin 64 → EReal) (k : Fin 64) : upTo w (k.val + 1) = upTo w k.val + share w k := by
  rw [upTo, upTo, show (Finset.univ.filter fun j : Fin 64 => j.val < k.val + 1) = insert k (Finset.univ.filter fun j : Fin 64 => j.val < k.val) from ?_,
    Finset.sum_insert (by simp), add_comm]
  ext j
  simp only [Finset.mem_filter, Finset.mem_univ, true_and, Finset.mem_insert, Fin.ext_iff]
  omega

/-- The sums ascend strictly, up to the last one. -/
theorem upTo_lt (h : Positive w) {a b : ℕ} (hab : a < b) (hb : b ≤ 64) : upTo w a < upTo w b := by
  induction b with
  | zero => omega
  | succ b ih =>
    have e := upTo_succ w ⟨b, by omega⟩
    have p := share_pos h ⟨b, by omega⟩
    simp only at e
    rcases Nat.lt_succ_iff_lt_or_eq.1 hab with q | rfl
    · have := ih q (by omega); linarith
    · linarith

/-- The shares up to and including position `k`, summed as extended reals. -/
theorem sum_share (w : Fin 64 → EReal) (k : Fin 64) :
    (∑ j : Fin 64 with j ≤ k, (share w j : EReal)) = ((upTo w (k.val + 1) : ℝ) : EReal) := by
  rw [coe_sum, upTo]
  simp only [Fin.le_def, Nat.lt_succ_iff]

/-- The kernel's share of each lane. -/
theorem pdf_row (x : FVec Ideal (W 64) .f32) (r : Fin 512) (h : Positive (row x r)) (k : Fin 64) :
    row (pdf x) r k = (share (row x r) k : EReal) := by
  refine Eq.trans ?_ (share_coe h k)
  unfold row
  pointwise [pdf, weights, fill]
  simp only [ofBits_small]

/-- The kernel's cumulative distribution, lane by lane: what lies before the lane. -/
theorem cdf_row (x : FVec Ideal (W 64) .f32) (r : Fin 512) (h : Positive (row x r)) (k : Fin 64) :
    row (cdf x) r k = (upTo (row x r) k.val : EReal) := by
  have e : row (cdf x) r k = row (sumScan 6 (pdf x)) r k - row (pdf x) r k := rfl
  rw [e, sumScan_row, pdf_row x r h, Finset.sum_congr rfl fun j _ => pdf_row x r h j, sum_share, upTo_succ, ← EReal.coe_sub]
  congr 1
  ring

end Cert.Rows
end
-- ==== Proof.HostReads.lean ====
/-
  Three operations of a program on whole arrays, each read at one element: the running sum along a row, the
  gather of one entry of a row per result element, and the number of set bits along the last axis.
-/
module

public import Idealize.ShloMosaic.Lib.Pointwise
public import Idealize.ShloMosaic.Lib.StableHlo.Predicate
public import Idealize.ShloMosaic.Lib.ValueIdxCore
public import Idealize.ShloMosaic.Lib.ReduceAll

@[expose] public section

noncomputable section

namespace Cert.Host

open Idealize.ShloMosaic

/-! ## The running sum -/

/-- A fold by addition adds the sum of the list's values. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The running sum along the rows of a matrix of 64 columns: entry `i` is the sum of the row's entries up to and
    including `i`. -/
theorem runningSum {A : ℕ} (x : FVec Ideal ⟨2, ![A, 64]⟩ .f32) {u : Shape} (init : u.Idx → Ideal .f32)
    (h : (⟨2, ![A, 64]⟩ : Shape).ReduceWindows (![1, 64] : Fin 2 → Nat) ![1, 1] ![0, 63] ![0, 0] ⟨2, ![A, 64]⟩)
    (hu : 0 < u.numel) (hinit : init (Shape.Idx.first hu) = (0 : EReal)) (r : Fin A) (i : Fin 64) :
    Host.reduceWindowAdd ![1, 64] ![1, 1] ![0, 63] ![0, 0] x init h hu (ix2 r i) = ∑ j : Fin 64 with j ≤ i, (x (ix2 r j) : EReal) := by
  unfold Host.reduceWindowAdd
  rw [Ideal.hostReduceWindowAdd_def, hinit]
  unfold Ideal.hostReduceWindowAdd Host.reduceWindow
  rw [foldl_add, zero_add, ← Fin.sum_univ_def]
  let g : (⟨2, ![1, 64]⟩ : Shape).Idx → EReal := fun w =>
    if hb : 63 ≤ i.val + (w 1).val then x (ix2 r ⟨i.val + (w 1).val - 63, by have := (w 1).isLt; have : (w 1).val < 64 := this; omega⟩) else 0
  refine Eq.trans (b := ∑ n, g ((⟨2, ![1, 64]⟩ : Shape).rowMajor.symm n)) (Finset.sum_congr rfl fun n _ => ?_) ?_
  · have h0 : ((⟨2, ![1, 64]⟩ : Shape).rowMajor.symm n 0).val = 0 := by
      have : ((⟨2, ![1, 64]⟩ : Shape).rowMajor.symm n 0).val < 1 := ((⟨2, ![1, 64]⟩ : Shape).rowMajor.symm n 0).isLt
      omega
    have h1 : ((⟨2, ![1, 64]⟩ : Shape).rowMajor.symm n 1).val < 64 := ((⟨2, ![1, 64]⟩ : Shape).rowMajor.symm n 1).isLt
    by_cases hb : 63 ≤ i.val + ((⟨2, ![1, 64]⟩ : Shape).rowMajor.symm n 1).val
    · rw [dif_pos (show _ from fun a => ?_)]
      · show _ = dite _ _ _
        rw [dif_pos hb]
        refine congrArg x (funext fun a => Fin.ext ?_)
        match a with
        | ⟨0, _⟩ =>
          show r.val * 1 + ((⟨2, ![1, 64]⟩ : Shape).rowMajor.symm n 0).val - 0 = r.val
          rw [h0]; omega
        | ⟨1, _⟩ =>
          show i.val * 1 + ((⟨2, ![1, 64]⟩ : Shape).rowMajor.symm n 1).val - 63 = i.val + ((⟨2, ![1, 64]⟩ : Shape).rowMajor.symm n 1).val - 63
          rw [Nat.mul_one]
      · match a with
        | ⟨0, _⟩ =>
          show 0 ≤ r.val * 1 + ((⟨2, ![1, 64]⟩ : Shape).rowMajor.symm n 0).val ∧ r.val * 1 + ((⟨2, ![1, 64]⟩ : Shape).rowMajor.symm n 0).val - 0 < A
          have := r.isLt
          rw [h0]; omega
        | ⟨1, _⟩ =>
          show 63 ≤ i.val * 1 + ((⟨2, ![1, 64]⟩ : Shape).rowMajor.symm n 1).val ∧ i.val * 1 + ((⟨2, ![1, 64]⟩ : Shape).rowMajor.symm n 1).val - 63 < 64
          omega
    · rw [dif_neg (fun hin => hb ?_)]
      · show _ = dite _ _ _
        rw [dif_neg hb]
      · have : 63 ≤ i.val * 1 + ((⟨2, ![1, 64]⟩ : Shape).rowMajor.symm n 1).val := (hin 1).1
        omega
  · rw [Equiv.sum_comp (⟨2, ![1, 64]⟩ : Shape).rowMajor.symm g, sum_idx2, Fin.sum_univ_one]
    rw [← Finset.sum_subset (Finset.subset_univ (Finset.univ.filter fun b : Fin 64 => 63 ≤ i.val + b.val)) (fun b _ hb => dif_neg (fun q => hb (by simpa using q)))]
    refine Finset.sum_nbij' (fun b => ⟨i.val + b.val - 63, by omega⟩) (fun j => ⟨min 63 (j.val + 63 - i.val), by omega⟩) ?_ ?_ ?_ ?_ ?_
    · intro b hb; simp only [Finset.mem_filter, Finset.mem_univ, true_and, Fin.le_def] at hb ⊢; omega
    · intro j hj; simp only [Finset.mem_filter, Finset.mem_univ, true_and, Fin.le_def] at hj ⊢; omega
    · intro b hb; simp only [Finset.mem_filter, Finset.mem_univ, true_and, Fin.ext_iff] at hb ⊢; omega
    · intro j hj; simp only [Finset.mem_filter, Finset.mem_univ, true_and, Fin.le_def, Fin.ext_iff] at hj ⊢; omega
    · intro b hb
      simp only [Finset.mem_filter, Finset.mem_univ, true_and] at hb
      exact dif_pos hb

/-! ## One entry of a row per result element -/

section Take
variable {α : Type}

/-- The dimension numbers of a gather along the rows of an `[A, N]` matrix, `C` entries a row. -/
abbrev takeDims (A N C : ℕ)
    (wf : GatherDims.WF ⟨2, ![A, N]⟩ ⟨3, ![A, C, 1]⟩ ⟨2, ![A, C]⟩ [] [1] [0] [1] [0] 2 ![1, 1]) :
    GatherDims ⟨2, ![A, N]⟩ ⟨3, ![A, C, 1]⟩ ⟨2, ![A, C]⟩ where
  offsetDims := []
  collapsedSliceDims := [1]
  operandBatchingDims := [0]
  startIndicesBatchingDims := [0]
  startIndexMap := [1]
  indexVectorDim := 2
  sliceSizes := ![1, 1]
  wf := wf

/-- The gather at `(r, j)`: row `r`'s entry at the index `idx[r, j, 0]`, clamped into the row. -/
theorem take_apply {A N C w : ℕ} (hN : 0 < N)
    (wf : GatherDims.WF ⟨2, ![A, N]⟩ ⟨3, ![A, C, 1]⟩ ⟨2, ![A, C]⟩ [] [1] [0] [1] [0] 2 ![1, 1])
    (x : (⟨2, ![A, N]⟩ : Shape).Idx → α) (idx : IVec ⟨3, ![A, C, 1]⟩ w) (r : Fin A) (j : Fin C) :
    Host.gather (takeDims A N C wf) x idx (ix2 r j) = x (ix2 r ⟨min (idx (ix3 r j (0 : Fin 1))).toInt.toNat (N - 1), by omega⟩) := by
  unfold Host.gather
  refine congrArg x (funext fun a => Fin.ext ?_)
  show (takeDims A N C wf).start (ix2 r j) idx a + (takeDims A N C wf).batchCoord (ix2 r j) a
      + (takeDims A N C wf).offCoord (ix2 r j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeDims A N C wf).startIndexMap from List.mem_singleton.mpr rfl)]
    have hsi : (takeDims A N C wf).siIdx (ix2 r j) ⟨List.idxOf (1 : Fin 2) (takeDims A N C wf).startIndexMap,
        List.idxOf_lt_length_iff.2 (List.mem_singleton.mpr rfl)⟩ = ix3 r j (0 : Fin 1) := by
      funext b; refine Fin.ext ?_
      match b with
      | ⟨0, _⟩ => rfl
      | ⟨1, _⟩ => rfl
      | ⟨2, _⟩ => rfl
    rw [hsi]
    rfl

end Take

/-! ## Selection and sorting -/

/-- A selection at one element. -/
theorem select_at {s : Shape} {α : Type} (c : IVec s 1) (a b : s.Idx → α) (j : s.Idx) : select c a b j = Scalar.select (c j) (a j) (b j) := rfl

/-- A matrix sorted along its rows, read at one element. -/
theorem sort_apply {A n : ℕ} {α : Type} (before : α → α → BitVec 1) (x : (⟨2, ![A, n]⟩ : Shape).Idx → α) (r : Fin A) (i : Fin n) :
    Host.sort ⟨2, ![A, n]⟩ 1 before x (ix2 r i) = x (ix2 r (sortedFrom (fun k k' => before (x (ix2 r k)) (x (ix2 r k')) == 1#1) i)) := by
  have hal : ∀ k : Fin n, (ix2 r i : (⟨2, ![A, n]⟩ : Shape).Idx).along 1 k = ix2 r k := fun k => by
    funext a
    match a with
    | ⟨0, _⟩ => rfl
    | ⟨1, _⟩ => rfl
  have e : Host.sort ⟨2, ![A, n]⟩ 1 before x (ix2 r i) = x ((ix2 r i : (⟨2, ![A, n]⟩ : Shape).Idx).along 1
      (sortedFrom (fun k k' => before (x ((ix2 r i : (⟨2, ![A, n]⟩ : Shape).Idx).along 1 k)) (x ((ix2 r i : (⟨2, ![A, n]⟩ : Shape).Idx).along 1 k')) == 1#1) i)) := rfl
  refine e.trans ((congrArg x (hal _)).trans ?_)
  exact congrArg (fun f : Fin n → Fin n → Bool => x (ix2 r (sortedFrom f i))) (funext fun k => funext fun k' =>
    congrArg₂ (fun p q => before (x p) (x q) == 1#1) (hal k) (hal k'))

/-! ## Counting set bits -/

/-- The sum of words that are each a widened bit is the number of set bits. -/
theorem count_bits {n : ℕ} (hn : n < 2 ^ 32) (b : Fin n → BitVec 1) (f : Fin n → BitVec 32) (hf : ∀ q, f q = (b q).setWidth 32) :
    (Finset.univ.fold IntOp.addi 0#32 f).toNat = (Finset.univ.filter fun q => b q = 1#1).card := by
  have e : ∀ q, (f q).toNat = if b q = 1#1 then 1 else 0 := fun q => by
    rw [hf q]; exact StableHlo.Predicate.toNat_setWidth_bit (b q)
  have hs : ∑ q : Fin n, (f q).toNat = (Finset.univ.filter fun q => b q = 1#1).card := by
    rw [Finset.card_filter]; exact Finset.sum_congr rfl fun q _ => e q
  have hle : (Finset.univ.filter fun q => b q = 1#1).card ≤ n := (Finset.card_le_univ _).trans (by simp)
  rw [StableHlo.Predicate.toNat_fold_addi _ _ (by rw [hs]; omega), hs]

end Cert.Host
end
-- ==== Proof.RefCount.lean ====
/-
  The reference's cumulative distribution and its search, read at one row: the shares, their running sums, the 65
  edges, how many edges are not above a random number, and the two neighbouring positions taken from that count.
-/
module

public import proofs.«01_k».proof.Proof.Cdf
public import proofs.«01_k».proof.Proof.HostReads
public import proofs.«01_k».proof.Proof.Gen.ReferenceIdeal

@[expose] public section

noncomputable section

namespace Cert.Ref

open Idealize.ShloMosaic Cert.ReferenceIdeal Cert.ReferenceIdeal.Gen Cert.Rows

/-- Row `r` of a matrix. -/
def line {A n : ℕ} {α : Type} (x : (⟨2, ![A, n]⟩ : Shape).Idx → α) (r : Fin A) : Fin n → α := fun i => x (ix2 r i)

/-- The smoothed weights. -/
def smoothed (w : FVec Ideal S16384x64 .f32) : FVec Ideal S16384x64 .f32 :=
  addf w (broadcastInDim S16384x64 ![] bcast_S_S16384x64 (constant S_ .f32 0x3727C5AC#32))

/-- The smoothed weights divided by their row's sum. -/
def shares (w : FVec Ideal S16384x64 .f32) : FVec Ideal S16384x64 .f32 :=
  Host.divf (smoothed w) (broadcastInDim S16384x64 ![0, 1] bcast_S16384x1_S16384x64_0_1
    (broadcastInDim S16384x1 ![0] bcast_S16384_S16384x1_0
      (Host.reduceAdd (smoothed w) (constant S_ .f32 0x00000000#32) reducesTo_S16384x64_S16384_d1 h_S_)))

/-- The running sums of the shares. -/
def running (w : FVec Ideal S16384x64 .f32) : FVec Ideal S16384x64 .f32 :=
  Host.reduceWindowAdd ![1, 64] ![1, 1] ![0, 63] ![0, 0] (shares w)
    (broadcastInDim S_ ![] bcast_S_S_ (constant S_ .f32 0x00000000#32)) reduceWindows_S16384x64_S16384x64_w1s1p0_0_w64s1p63_0 h_S_

/-- A zero before the running sums: the edges. -/
def edges (w : FVec Ideal S16384x64 .f32) : FVec Ideal S16384x65 .f32 :=
  concatenate S16384x65 1 [⟨S16384x1, broadcastInDim S16384x1 ![] bcast_S_S16384x1 (constant (F := Ideal) S_ .f32 0x00000000#32)⟩, ⟨S16384x64, running w⟩]
    concatenates_S16384x1_S16384x64_S16384x65_d1

/-- How many edges of its row are not above each random number. -/
def counted (w : FVec Ideal S16384x64 .f32) (u : FVec Ideal S16384x128 .f32) : IVec S16384x128 32 :=
  Host.reduce IntOp.addi (extui 32 (cmpf .ole
      (broadcastInDim S16384x128x65 ![0, 1, 2] bcast_S16384x1x65_S16384x128x65_0_1_2 (broadcastInDim S16384x1x65 ![0, 2] bcast_S16384x65_S16384x1x65_0_2 (edges w)))
      (broadcastInDim S16384x128x65 ![0, 1, 2] bcast_S16384x128x1_S16384x128x65_0_1_2 (broadcastInDim S16384x128x1 ![0, 1] bcast_S16384x128_S16384x128x1_0_1 u)))
    natLt_1_32) (constantI S_ 32 0#32) reducesTo_S16384x128x65_S16384x128_d2 h_S_

/-- A word kept within 0 and 63. -/
def clipped (x : IVec S16384x128 32) : IVec S16384x128 32 :=
  minsi (broadcastInDim S16384x128 ![] bcast_S_S16384x128 (id (constantI S_ 32 63#32)))
    (maxsi (broadcastInDim S16384x128 ![] bcast_S_S16384x128 (id (constantI S_ 32 0#32))) x)

/-- The position before the count. -/
def below (w : FVec Ideal S16384x64 .f32) (u : FVec Ideal S16384x128 .f32) : IVec S16384x128 32 :=
  clipped (subi (counted w u) (broadcastInDim S16384x128 ![] bcast_S_S16384x128 (constantI S_ 32 1#32)))

/-- The position of the count. -/
def above (w : FVec Ideal S16384x64 .f32) (u : FVec Ideal S16384x128 .f32) : IVec S16384x128 32 := clipped (counted w u)

variable {w : FVec Ideal S16384x64 .f32} {u : FVec Ideal S16384x128 .f32} {r : Fin 16384}

/-- A share, read at its row. -/
theorem shares_line (h : Positive (line w r)) (k : Fin 64) : line (shares w) r k = (share (line w r) k : EReal) := by
  refine Eq.trans ?_ (share_coe h k)
  unfold line
  pointwise [shares, smoothed]
  simp only [ofBits_small]

/-- A running sum, read at its row. -/
theorem running_line (h : Positive (line w r)) (k : Fin 64) : line (running w) r k = (upTo (line w r) (k.val + 1) : EReal) := by
  have e : line (running w) r k = ∑ j : Fin 64 with j ≤ k, (shares w (ix2 r j) : EReal) :=
    Cert.Host.runningSum (shares w) _ _ _ (by pointwise) r k
  exact e.trans ((Finset.sum_congr rfl fun j _ => shares_line h j).trans (sum_share _ _))

/-- An edge, read at its row: what the shares before it add up to. -/
theorem edges_line (h : Positive (line w r)) (k : Fin 65) : line (edges w) r k = (upTo (line w r) k.val : EReal) := by
  have e : line (edges w) r k = if hk : k.val < 1 then (0 : EReal) else line (running w) r ⟨k.val - 1, by omega⟩ := by
    unfold line
    pointwise [edges]
  rw [e]
  split
  · next hk => rw [show k.val = 0 by omega, upTo_zero]; rfl
  · next hk => rw [running_line h]; congr 2; show k.val - 1 + 1 = k.val; omega

/-- How many edges of the row are not above `x`. -/
def countEdges (w : Fin 64 → EReal) (x : EReal) : ℕ := (Finset.univ.filter fun k : Fin 65 => (upTo w k.val : EReal) ≤ x).card

/-- At most 65 edges are counted. -/
theorem countEdges_le (w : Fin 64 → EReal) (x : EReal) : countEdges w x ≤ 65 := (Finset.card_le_univ _).trans (by simp)

/-- The bit of a decided statement is set exactly when the statement holds. -/
theorem ofBool_decide_iff (p : Prop) [Decidable p] : BitVec.ofBool (decide p) = 1#1 ↔ p := by
  by_cases h : p <;> simp [h]

/-- The reference's count is that number. -/
theorem counted_line (h : Positive (line w r)) (j : Fin 128) : (counted w u (ix2 r j)).toNat = countEdges (line w r) (u (ix2 r j)) := by
  have e : counted w u (ix2 r j) = Finset.univ.fold IntOp.addi 0#32 fun q : Fin 65 =>
      (Ideal.cmp .ole (line (edges w) r q) (u (ix2 r j))).setWidth 32 := by
    unfold line
    pointwise [counted]
  rw [e, Cert.Host.count_bits (by norm_num) (fun q => Ideal.cmp .ole (line (edges w) r q) (u (ix2 r j))) _ fun _ => rfl]
  unfold countEdges
  refine congrArg Finset.card (Finset.filter_congr fun q _ => ?_)
  rw [edges_line h]
  exact ofBool_decide_iff _

/-- Against the 64 lower edges alone: the count is the same, or every edge is counted. -/
theorem countEdges_cases {w : Fin 64 → EReal} (h : Positive w) (x : EReal) :
    countEdges w x = countLe (fun k => (upTo w k.val : EReal)) x
      ∨ countEdges w x = 65 ∧ countLe (fun k => (upTo w k.val : EReal)) x = 64 := by
  by_cases hx : (upTo w 64 : EReal) ≤ x
  · right
    have hall : ∀ n : ℕ, n ≤ 64 → (upTo w n : EReal) ≤ x := fun n hn => by
      refine le_trans (EReal.coe_le_coe_iff.mpr ?_) hx
      rcases Nat.lt_or_eq_of_le hn with q | rfl
      · exact (upTo_lt h q (le_refl _)).le
      · exact le_refl _
    constructor
    · unfold countEdges
      rw [Finset.filter_true_of_mem fun k _ => hall k.val (by omega)]; simp
    · unfold countLe
      rw [Finset.filter_true_of_mem fun k _ => hall k.val (by omega)]; simp
  · left
    unfold countEdges countLe
    symm
    refine Finset.card_bij (fun k _ => k.castSucc) ?_ ?_ ?_
    · intro k hk; simpa using hk
    · intro a _ b _ hab; exact Fin.castSucc_injective _ hab
    · intro k hk
      simp only [Finset.mem_filter, Finset.mem_univ, true_and] at hk
      have : k.val ≠ 64 := fun q => hx (by rw [q] at hk; exact hk)
      exact ⟨⟨k.val, by omega⟩, by simpa using hk, rfl⟩

/-- Keeping the count, or the count less one, within the row. -/
theorem clip_words : ∀ m : Fin 66,
    IntOp.minsi 63#32 (IntOp.maxsi 0#32 (IntOp.subi (BitVec.ofNat 32 m.val) 1#32)) = BitVec.ofNat 32 (clip (m.val - 1)).val
      ∧ IntOp.minsi 63#32 (IntOp.maxsi 0#32 (BitVec.ofNat 32 m.val)) = BitVec.ofNat 32 (clip m.val).val := by decide

/-- The count as a word. -/
theorem counted_word (h : Positive (line w r)) (j : Fin 128) : counted w u (ix2 r j) = BitVec.ofNat 32 (countEdges (line w r) (u (ix2 r j))) := by
  rw [← counted_line h, BitVec.ofNat_toNat, BitVec.setWidth_eq]

/-- The position before the count is the lower neighbour. -/
theorem below_line (h : Positive (line w r)) (j : Fin 128) :
    below w u (ix2 r j) = BitVec.ofNat 32 (clip (countLe (fun k => (upTo (line w r) k.val : EReal)) (u (ix2 r j)) - 1)).val := by
  have e : below w u (ix2 r j) = IntOp.minsi 63#32 (IntOp.maxsi 0#32 (IntOp.subi (counted w u (ix2 r j)) 1#32)) := by
    pointwise [below, clipped]
    rfl
  have hc := (clip_words ⟨countEdges (line w r) (u (ix2 r j)), Nat.lt_succ_of_le (countEdges_le _ _)⟩).1
  rw [e, counted_word h, hc]
  show BitVec.ofNat 32 (clip (countEdges (line w r) (u (ix2 r j)) - 1)).val = _
  rcases countEdges_cases h (u (ix2 r j)) with q | ⟨q, q'⟩
  · rw [q]
  · rw [q, q']; rfl

/-- The position of the count is the upper neighbour. -/
theorem above_line (h : Positive (line w r)) (j : Fin 128) :
    above w u (ix2 r j) = BitVec.ofNat 32 (clip (countLe (fun k => (upTo (line w r) k.val : EReal)) (u (ix2 r j)))).val := by
  have e : above w u (ix2 r j) = IntOp.minsi 63#32 (IntOp.maxsi 0#32 (counted w u (ix2 r j))) := by
    pointwise [above, clipped]
    rfl
  have hc := (clip_words ⟨countEdges (line w r) (u (ix2 r j)), Nat.lt_succ_of_le (countEdges_le _ _)⟩).2
  rw [e, counted_word h, hc]
  show BitVec.ofNat 32 (clip (countEdges (line w r) (u (ix2 r j)))).val = _
  rcases countEdges_cases h (u (ix2 r j)) with q | ⟨q, q'⟩
  · rw [q]
  · rw [q, q']; rfl

end Cert.Ref
end
-- ==== Proof.Ascending.lean ====
/-
  Arranging the entries of a row into ascending order: the arrangement exists, and it is the only
  ascending rearrangement of the row.
-/
module

public import proofs.«01_k».proof.Proof.Interp
public import Idealize.ShloMosaic.Lib.SortFacts

@[expose] public section

noncomputable section

namespace Cert.Rows

open Idealize.ShloMosaic

/-- The position that comes to each place when the entries are put in ascending order. -/
def ascending {n : Nat} (f : Fin n → EReal) : Fin n → Fin n := sortedFrom fun a b => decide (f a < f b)

/-- Read in that order, the entries ascend. -/
theorem ascending_monotone {n : Nat} (f : Fin n → EReal) : Monotone (f ∘ ascending f) := by
  intro i j hij
  rcases eq_or_lt_of_le hij with rfl | hlt
  · exact le_refl _
  · have h := sortedFrom_noInversion (fun a b => decide (f a < f b)) (fun a b => decide (f a < f b))
      (fun a b h => decide_eq_false (not_lt.mpr (of_decide_eq_true h).le)) (fun _ _ h => h)
      (fun a b c h1 h2 => decide_eq_false (not_lt.mpr (le_trans (not_lt.mp (of_decide_eq_false h2)) (not_lt.mp (of_decide_eq_false h1)))))
      i j hlt
    exact not_lt.mp (of_decide_eq_false h)

/-- Every position comes to exactly one place. -/
theorem ascending_bijective {n : Nat} (f : Fin n → EReal) : Function.Bijective (ascending f) :=
  ⟨sortedFrom_injective _, sortedFrom_surjective _⟩

/-- The arrangement as a permutation. -/
def ascendingPerm {n : Nat} (f : Fin n → EReal) : Equiv.Perm (Fin n) := Equiv.ofBijective _ (ascending_bijective f)

/-- The permutation at a place is the sort's choice there. -/
theorem ascendingPerm_apply {n : Nat} (f : Fin n → EReal) (i : Fin n) :
    ascendingPerm f i = sortedFrom (fun a b => decide (f a < f b)) i := rfl

/-- Rearranged by the permutation, the entries ascend. -/
theorem ascendingPerm_monotone {n : Nat} (f : Fin n → EReal) : Monotone (f ∘ ascendingPerm f) := ascending_monotone f

/-- ONLY ONE ASCENDING REARRANGEMENT: two ascending rearrangements of a row are equal. -/
theorem ascending_unique {n : Nat} (f : Fin n → EReal) {σ τ : Equiv.Perm (Fin n)} (hσ : Monotone (f ∘ σ)) (hτ : Monotone (f ∘ τ)) :
    f ∘ σ = f ∘ τ := by
  have hcard : ∀ (π : Equiv.Perm (Fin n)) (y : EReal),
      (Finset.univ.filter fun i => (f ∘ π) i ≤ y).card = (Finset.univ.filter fun i => f i ≤ y).card := by
    intro π y
    refine Finset.card_bij (fun i _ => π i) ?_ (fun _ _ _ _ h => π.injective h) ?_
    · intro i hi
      exact Finset.mem_filter.mpr ⟨Finset.mem_univ _, (Finset.mem_filter.mp hi).2⟩
    · intro i hi
      refine ⟨π.symm i, Finset.mem_filter.mpr ⟨Finset.mem_univ _, ?_⟩, Equiv.apply_symm_apply _ _⟩
      show f (π (π.symm i)) ≤ y
      rw [Equiv.apply_symm_apply]
      exact (Finset.mem_filter.mp hi).2
  have hiff : ∀ (i : Fin n) (y : EReal), (f ∘ σ) i ≤ y ↔ (f ∘ τ) i ≤ y := by
    intro i y
    rw [← lt_count_iff (fun i => (f ∘ σ) i ≤ y) (fun _ _ hij h => le_trans (hσ hij) h) i,
      ← lt_count_iff (fun i => (f ∘ τ) i ≤ y) (fun _ _ hij h => le_trans (hτ hij) h) i, hcard, hcard]
  funext i
  exact le_antisymm ((hiff i _).mpr (le_refl _)) ((hiff i _).mp (le_refl _))

end Cert.Rows

end
-- ==== Proof.Merged.lean ====
/-
  What the kernel leaves in a row: the coarse depths and the interpolated depths, rearranged into
  ascending order.
-/
module

public import proofs.«01_k».proof.Proof.Depths
public import proofs.«01_k».proof.Proof.Ascending

@[expose] public section

noncomputable section

namespace Cert.Rows

open Idealize.ShloMosaic Idealize.ShloMosaic.SortNet

/-- A run of 64 entries followed by a run of 128. -/
def joined {α : Type} (f : Fin 64 → α) (g : Fin 128 → α) : Fin 192 → α :=
  fun i => if h : i.val < 64 then f ⟨i.val, h⟩ else g ⟨i.val - 64, by omega⟩

/-- Rearranging the second run rearranges the whole. -/
theorem joined_perm {α : Type} (f : Fin 64 → α) (g : Fin 128 → α) (τ : Equiv.Perm (Fin 128)) :
    ∃ π : Equiv.Perm (Fin 192), joined f (g ∘ τ) = joined f g ∘ π := by
  let e : Fin 192 → Fin 192 := fun i => if i.val < 64 then i else ⟨64 + (τ ⟨i.val - 64, by omega⟩).val, by omega⟩
  have elo : ∀ i : Fin 192, i.val < 64 → e i = i := fun i h => if_pos h
  have ehi : ∀ i : Fin 192, ¬ i.val < 64 → e i = ⟨64 + (τ ⟨i.val - 64, by omega⟩).val, by omega⟩ := fun i h => if_neg h
  have hinj : Function.Injective e := by
    intro i j h
    by_cases hi : i.val < 64 <;> by_cases hj : j.val < 64
    · rwa [elo i hi, elo j hj] at h
    · rw [elo i hi, ehi j hj] at h
      have := congrArg Fin.val h
      simp at this; omega
    · rw [ehi i hi, elo j hj] at h
      have := congrArg Fin.val h
      simp at this; omega
    · rw [ehi i hi, ehi j hj] at h
      have h1 := congrArg Fin.val h
      have h2 : τ ⟨i.val - 64, by omega⟩ = τ ⟨j.val - 64, by omega⟩ := Fin.ext (by simpa using h1)
      have h3 := congrArg Fin.val (τ.injective h2)
      simp at h3
      exact Fin.ext (by omega)
  refine ⟨Equiv.ofBijective e (Finite.injective_iff_bijective.mp hinj), ?_⟩
  funext i
  show joined f (g ∘ τ) i = joined f g (e i)
  by_cases hi : i.val < 64
  · rw [elo i hi]
    simp only [joined, dif_pos hi]
  · rw [ehi i hi]
    simp only [joined, dif_neg hi, dif_neg (show ¬ 64 + (τ ⟨i.val - 64, by omega⟩).val < 64 by omega), Function.comp_apply, Nat.add_sub_cancel_left]

/-- A rearrangement of 192 places carried to 256 places: the first 64 stay, the others make room for 64
    places that come last. -/
theorem spread (ρ : Equiv.Perm (Fin 192)) :
    ∃ π : Equiv.Perm (Fin 256), (∀ (i : Fin 256) (h : i.val < 192), (ρ ⟨i.val, h⟩).val < 64 → (π i).val = (ρ ⟨i.val, h⟩).val) ∧
      (∀ (i : Fin 256) (h : i.val < 192), ¬ (ρ ⟨i.val, h⟩).val < 64 → (π i).val = (ρ ⟨i.val, h⟩).val + 64) ∧
      (∀ (i : Fin 256), ¬ i.val < 192 → (π i).val = i.val - 128) := by
  let e : Fin 256 → Fin 256 := fun i =>
    if h : i.val < 192 then (if (ρ ⟨i.val, h⟩).val < 64 then ⟨(ρ ⟨i.val, h⟩).val, by omega⟩ else ⟨(ρ ⟨i.val, h⟩).val + 64, by omega⟩)
    else ⟨i.val - 128, by omega⟩
  have he1 : ∀ (i : Fin 256) (h : i.val < 192), (ρ ⟨i.val, h⟩).val < 64 → (e i).val = (ρ ⟨i.val, h⟩).val := by
    intro i h h'
    show (dite _ _ _ : Fin 256).val = _
    rw [dif_pos h, if_pos h']
  have he2 : ∀ (i : Fin 256) (h : i.val < 192), ¬ (ρ ⟨i.val, h⟩).val < 64 → (e i).val = (ρ ⟨i.val, h⟩).val + 64 := by
    intro i h h'
    show (dite _ _ _ : Fin 256).val = _
    rw [dif_pos h, if_neg h']
  have he3 : ∀ (i : Fin 256), ¬ i.val < 192 → (e i).val = i.val - 128 := by
    intro i h
    show (dite _ _ _ : Fin 256).val = _
    rw [dif_neg h]
  have hinj : Function.Injective e := by
    intro i j h
    have hv := congrArg Fin.val h
    by_cases hi : i.val < 192 <;> by_cases hj : j.val < 192
    · have key : (ρ ⟨i.val, hi⟩).val = (ρ ⟨j.val, hj⟩).val := by
        by_cases h1 : (ρ ⟨i.val, hi⟩).val < 64 <;> by_cases h2 : (ρ ⟨j.val, hj⟩).val < 64
        · rw [he1 i hi h1, he1 j hj h2] at hv; omega
        · rw [he1 i hi h1, he2 j hj h2] at hv; omega
        · rw [he2 i hi h1, he1 j hj h2] at hv; omega
        · rw [he2 i hi h1, he2 j hj h2] at hv; omega
      have := congrArg Fin.val (ρ.injective (Fin.ext key))
      exact Fin.ext this
    · exfalso
      by_cases h1 : (ρ ⟨i.val, hi⟩).val < 64
      · rw [he1 i hi h1, he3 j hj] at hv; omega
      · rw [he2 i hi h1, he3 j hj] at hv; omega
    · exfalso
      by_cases h1 : (ρ ⟨j.val, hj⟩).val < 64
      · rw [he1 j hj h1, he3 i hi] at hv; omega
      · rw [he2 j hj h1, he3 i hi] at hv; omega
    · rw [he3 i hi, he3 j hj] at hv
      exact Fin.ext (by omega)
  exact ⟨Equiv.ofBijective e (Finite.injective_iff_bijective.mp hinj), he1, he2, he3⟩

/-- Two runs of keys, with 64 infinities between them. -/
def apart (f : Fin 64 → EReal) (g : Fin 128 → EReal) : Fin 256 → EReal :=
  fun i => if h : i.val < 64 then f ⟨i.val, h⟩ else if h' : i.val < 128 then ⊤ else g ⟨i.val - 128, by omega⟩

/-- The first run, with and without the infinities. -/
theorem apart_low (f : Fin 64 → EReal) (g : Fin 128 → EReal) (i : Fin 256) (k : Fin 192) (h : k.val < 64) (hv : i.val = k.val) :
    apart f g i = joined f g k := by
  rw [apart, dif_pos (by omega), joined, dif_pos h]
  exact congrArg f (Fin.ext hv)

/-- The second run stands 64 places further on with the infinities. -/
theorem apart_high (f : Fin 64 → EReal) (g : Fin 128 → EReal) (i : Fin 256) (k : Fin 192) (h : ¬ k.val < 64) (hv : i.val = k.val + 64) :
    apart f g i = joined f g k := by
  rw [apart, dif_neg (by omega), dif_neg (by omega), joined, dif_neg h]
  exact congrArg g (Fin.ext (by show i.val - 128 = k.val - 64; omega))

/-- Between the runs stand infinities. -/
theorem apart_gap (f : Fin 64 → EReal) (g : Fin 128 → EReal) (i : Fin 256) (h : 64 ≤ i.val) (h' : i.val < 128) : apart f g i = ⊤ := by
  rw [apart, dif_neg (by omega), dif_pos h']

/-- In ascending order the two runs come first and the infinities fill the last places. -/
theorem sorted_keys (f : Fin 64 → EReal) (g : Fin 128 → EReal) :
    ∃ (ρ : Equiv.Perm (Fin 192)) (π : Equiv.Perm (Fin 256)), Monotone (apart f g ∘ π) ∧
      (∀ (i : Fin 256) (h : i.val < 192), apart f g (π i) = joined f g (ρ ⟨i.val, h⟩)) ∧
      (∀ i : Fin 256, ¬ i.val < 192 → apart f g (π i) = ⊤) := by
  obtain ⟨ρ, hρ⟩ : ∃ ρ : Equiv.Perm (Fin 192), Monotone (joined f g ∘ ρ) :=
    ⟨ascendingPerm (joined f g), ascendingPerm_monotone (joined f g)⟩
  obtain ⟨π, he1, he2, he3⟩ := spread ρ
  have hlow : ∀ (i : Fin 256) (h : i.val < 192), apart f g (π i) = joined f g (ρ ⟨i.val, h⟩) := by
    intro i h
    by_cases h' : (ρ ⟨i.val, h⟩).val < 64
    · exact apart_low f g _ _ h' (he1 i h h')
    · exact apart_high f g _ _ h' (he2 i h h')
  have hhigh : ∀ (i : Fin 256), ¬ i.val < 192 → apart f g (π i) = ⊤ := by
    intro i h
    have hv := he3 i h
    exact apart_gap f g _ (by omega) (by omega)
  refine ⟨ρ, π, fun i j hij => ?_, hlow, hhigh⟩
  have hij' := Fin.le_def.mp hij
  by_cases hj : j.val < 192
  · have h1 := hlow i (by omega)
    have h2 := hlow j hj
    have h3 := hρ (show (⟨i.val, by omega⟩ : Fin 192) ≤ ⟨j.val, hj⟩ from Fin.le_def.mpr hij')
    exact h1.trans_le (h3.trans_eq h2.symm)
  · exact le_top.trans_eq (hhigh j hj).symm

/-- The keys before the merge, read at a lane. -/
theorem keysIn_apply (c : V 64) (u : V 128) (r : Fin 512) (i : Fin 256) :
    row (keysIn c u) r i = if h : i.val < 64 then row c r ⟨i.val, h⟩ else if h' : i.val < 128 then ⊤ else row u r ⟨i.val - 128, by omega⟩ := by
  unfold row keysIn
  rw [concatenate_apply]
  simp only [concatenateAt]
  by_cases h : i.val < 64
  · rw [dif_pos h]
    refine (dif_pos h).trans ?_
    congr 1
    funext d
    match d with
    | ⟨0, _⟩ => rfl
    | ⟨1, _⟩ => rfl
  · rw [dif_neg h]
    refine (dif_neg h).trans ?_
    by_cases h' : i.val < 128
    · rw [dif_pos h']
      refine (dif_pos (show i.val - 64 < 64 by omega)).trans ?_
      exact ofBits_inf
    · rw [dif_neg h']
      refine (dif_neg (show ¬ i.val - 64 < 64 by omega)).trans ?_
      congr 1
      funext d
      match d with
      | ⟨0, _⟩ => rfl
      | ⟨1, _⟩ => exact Fin.ext (show i.val - 64 - 64 = i.val - 128 by omega)

/-- The mark of a lane without a coarse depth is not positive. -/
theorem ofBits_mark : Ideal.ofBits .f32 0xBF800000#32 ≤ (0 : EReal) := by
  show Ideal.ieee 8 23 (0xBF800000#32) ≤ _
  unfold Ideal.ieee
  rw [if_neg (by decide), if_neg (by decide), if_pos (by decide)]
  refine EReal.coe_nonpos.mpr ?_
  have : (0 : ℝ) ≤ ((2 ^ 23 + ((0xBF800000#32).extractLsb' 0 23).toNat : Nat) : ℝ)
      * (2 : ℝ) ^ ((((0xBF800000#32).extractLsb' 23 8).toNat : Int) - (2 ^ (8 - 1) - 1) - (23 : Nat)) := by positivity
  linarith

/-- The channel before the merge, read at a lane: the coarse depths, then the mark. -/
theorem chanIn_apply (t : V 64) (r : Fin 512) (i : Fin 256) :
    row (chanIn t) r i = if h : i.val < 64 then row t r ⟨i.val, h⟩ else Ideal.ofBits .f32 0xBF800000#32 :=
  beside_apply (n := 256) (by decide) t (fill 192 0xBF800000#32) (concatenates_lanes (by decide)) r i

/-- The first 192 lanes, read at a lane. -/
theorem head_apply (x : V 256) (r : Fin 512) (i : Fin 192) : row (head x) r i = row x r ⟨i.val, by omega⟩ :=
  (lanes_apply (n := 256) (o := 0) x (slices_lanes (by decide)) r i (by omega)).trans (congrArg (fun k => x (ix2 r k)) (Fin.ext (Nat.zero_add i.val)))

section Row
variable {c t : Fin 64 → ℝ} {cv tv : V 64} {uv : V 128} {r : Fin 512}

/-- The merged keys of a row: ascending, and in the first 192 lanes a rearrangement of the cumulative
    weights and the random numbers, infinite beyond. -/
theorem merged_keys (hc : StrictMono c) (hcv : ∀ k, row cv r k = c k) :
    Monotone (row (mergeDownKey 8 (keysIn cv (sortLevels 7 uv))) r) ∧
      (∀ i : Fin 256, 192 ≤ i.val → row (mergeDownKey 8 (keysIn cv (sortLevels 7 uv))) r i = ⊤) ∧
      ∃ ρ : Equiv.Perm (Fin 192), row (head (mergeDownKey 8 (keysIn cv (sortLevels 7 uv)))) r
        = joined (fun k => (c k : EReal)) (row (sortLevels 7 uv) r) ∘ ρ := by
  have hanti := (sortLevels_spec uv r).1
  generalize sortLevels 7 uv = us at *
  -- the keys before the merge rise and then fall
  have hDA : DescAsc (row (keysIn cv us) r) := by
    refine ⟨128, Or.inr ⟨?_, ?_⟩⟩
    · intro i j hij hj
      have hij' := Fin.le_def.mp hij
      rw [keysIn_apply, keysIn_apply]
      by_cases h : j.val < 64
      · rw [dif_pos (show i.val < 64 by omega), dif_pos h, hcv, hcv]
        exact EReal.coe_le_coe_iff.mpr (hc.monotone hij)
      · rw [dif_neg h, dif_pos hj]
        exact le_top
    · intro i j hij hi
      have hij' := Fin.le_def.mp hij
      rw [keysIn_apply, keysIn_apply, dif_neg (by omega), dif_neg (by omega), dif_neg (by omega), dif_neg (by omega)]
      exact hanti (Fin.le_def.mpr (by show i.val - 128 ≤ j.val - 128; omega))
  have hmono := mergeDownKey_monotone (keysIn cv us) r hDA
  obtain ⟨σ, hσ, -⟩ := mergeDown_perm 8 (le_refl _) (keysIn cv us) (keysIn cv us) r
  obtain ⟨ρ, π, hmono', hlow, hhigh⟩ := sorted_keys (fun k => (c k : EReal)) (row us r)
  have hin : row (keysIn cv us) r = apart (fun k => (c k : EReal)) (row us r) := by
    funext i
    rw [keysIn_apply]
    simp only [hcv]
    rfl
  have heq : row (mergeDownKey 8 (keysIn cv us)) r = apart (fun k => (c k : EReal)) (row us r) ∘ π := by
    rw [hσ, hin] at hmono
    rw [hσ, hin]
    exact ascending_unique _ hmono hmono'
  refine ⟨hmono, fun i hi => by rw [heq]; exact hhigh i (by omega), ρ, ?_⟩
  funext i
  rw [head_apply, heq]
  exact hlow ⟨i.val, by omega⟩ i.isLt

/-- THE ROW THE KERNEL LEAVES: in ascending order, and a rearrangement of the coarse depths together with
    the depths at the random numbers. -/
theorem merged_row (hc : StrictMono c) (hc0 : c 0 = 0) (ht0 : ∀ k, 0 < t k) (ht : Monotone t)
    (hcv : ∀ k, row cv r k = c k) (htv : ∀ k, row tv r k = t k)
    (htie : ∀ (j : Fin 128) (k : Fin 64), row uv r j = c k → ∀ h : 0 < k.val, small ≤ c k - c ⟨k.val - 1, by omega⟩) :
    Monotone (row (depths (head (mergeDownKey 8 (keysIn cv (sortLevels 7 uv)))) (head (mergeDownChan 8 (keysIn cv (sortLevels 7 uv)) (chanIn tv)))) r) ∧
      ∃ π : Equiv.Perm (Fin 192),
        row (depths (head (mergeDownKey 8 (keysIn cv (sortLevels 7 uv)))) (head (mergeDownChan 8 (keysIn cv (sortLevels 7 uv)) (chanIn tv)))) r
          = joined (fun k => (t k : EReal)) (fun j => depthAt small (fun k => (c k : EReal)) (fun k => (t k : EReal)) (row uv r j)) ∘ π := by
  obtain ⟨hmono, htop, ρ, hρ⟩ := merged_keys (uv := uv) (r := r) hc hcv
  obtain ⟨τ, hτ⟩ := (sortLevels_spec uv r).2
  generalize sortLevels 7 uv = us at *
  obtain ⟨σ, hK, hC⟩ := mergeDown_perm 8 (le_refl _) (keysIn cv us) (chanIn tv) r
  -- where the coarse entries went
  have hat : ∀ k : Fin 64, row (mergeDownKey 8 (keysIn cv us)) r (σ.symm ⟨k.val, by omega⟩) = c k := by
    intro k
    rw [hK]
    show row (keysIn cv us) r (σ (σ.symm _)) = _
    rw [Equiv.apply_symm_apply, keysIn_apply, dif_pos k.isLt, hcv]
  have hlt : ∀ k : Fin 64, (σ.symm ⟨k.val, by omega⟩).val < 192 := by
    intro k
    by_contra h
    have h1 := htop _ (not_lt.mp h)
    rw [hat k] at h1
    exact EReal.coe_ne_top _ h1
  let pos : Fin 64 → Fin 192 := fun k => ⟨(σ.symm ⟨k.val, by omega⟩).val, hlt k⟩
  have hpos : StrictMono pos := by
    intro a b hab
    by_contra h
    have h1 : σ.symm ⟨b.val, by omega⟩ ≤ σ.symm ⟨a.val, by omega⟩ := Fin.le_def.mpr (Fin.le_def.mp (not_lt.mp h))
    have h2 := hmono h1
    rw [hat, hat] at h2
    exact absurd (EReal.coe_le_coe_iff.mp h2) (not_le.mpr (hc hab))
  have hkey : ∀ k, row (head (mergeDownKey 8 (keysIn cv us))) r (pos k) = c k := by
    intro k
    rw [head_apply]
    exact hat k
  have hchan : ∀ k, row (head (mergeDownChan 8 (keysIn cv us) (chanIn tv))) r (pos k) = t k := by
    intro k
    rw [head_apply, hC]
    show row (chanIn tv) r (σ (σ.symm _)) = _
    rw [Equiv.apply_symm_apply, chanIn_apply, dif_pos k.isLt, htv]
  have hfar : ∀ p : Fin 192, (∀ k, pos k ≠ p) → ¬ (σ ⟨p.val, by omega⟩).val < 64 := by
    intro p hp h
    refine hp ⟨(σ ⟨p.val, by omega⟩).val, h⟩ (Fin.ext ?_)
    show (σ.symm (σ ⟨p.val, _⟩)).val = p.val
    rw [Equiv.symm_apply_apply]
  have hrest : ∀ p, (∀ k, pos k ≠ p) → row (head (mergeDownChan 8 (keysIn cv us) (chanIn tv))) r p ≤ 0 := by
    intro p hp
    rw [head_apply, hC]
    show row (chanIn tv) r (σ _) ≤ 0
    rw [chanIn_apply, dif_neg (hfar p hp)]
    exact ofBits_mark
  have htie' : ∀ p, (∀ k, pos k ≠ p) → ∀ k : Fin 64, row (head (mergeDownKey 8 (keysIn cv us))) r p = c k →
      ∀ h : 0 < k.val, small ≤ c k - c ⟨k.val - 1, by omega⟩ := by
    intro p hp k hk
    rw [head_apply, hK] at hk
    have hk' : row (keysIn cv us) r (σ ⟨p.val, by omega⟩) = c k := hk
    rw [keysIn_apply, dif_neg (hfar p hp)] at hk'
    by_cases h128 : (σ ⟨p.val, by omega⟩).val < 128
    · rw [dif_pos h128] at hk'
      exact absurd hk'.symm (EReal.coe_ne_top _)
    · rw [dif_neg h128, hτ] at hk'
      exact htie _ k hk'
  have hmonoH : Monotone (row (head (mergeDownKey 8 (keysIn cv us))) r) := by
    intro i j hij
    rw [head_apply, head_apply]
    exact hmono (Fin.le_def.mpr (Fin.le_def.mp hij))
  have hall : row (depths (head (mergeDownKey 8 (keysIn cv us))) (head (mergeDownChan 8 (keysIn cv us) (chanIn tv)))) r
      = depthAt small (fun k => (c k : EReal)) (fun k => (t k : EReal)) ∘ row (head (mergeDownKey 8 (keysIn cv us))) r :=
    funext fun p => depths_row hc hc0 ht0 ht hpos hmonoH hkey hchan hrest htie' p
  rw [hall]
  refine ⟨(depthAt_mono small_pos small_le_one hc ht).comp hmonoH, ?_⟩
  obtain ⟨τ', hτ'⟩ := joined_perm (fun k => (t k : EReal))
    (fun j => depthAt small (fun k => (c k : EReal)) (fun k => (t k : EReal)) (row uv r j)) τ
  refine ⟨ρ.trans τ', ?_⟩
  have hjoin : depthAt small (fun k => (c k : EReal)) (fun k => (t k : EReal)) ∘ joined (fun k => (c k : EReal)) (row us r)
      = joined (fun k => (t k : EReal)) ((fun j => depthAt small (fun k => (c k : EReal)) (fun k => (t k : EReal)) (row uv r j)) ∘ τ) := by
    funext i
    simp only [Function.comp_apply, joined]
    by_cases h : i.val < 64
    · rw [dif_pos h, dif_pos h, depthAt_self small_pos hc]
    · rw [dif_neg h, dif_neg h, hτ]
      rfl
  rw [hρ, ← Function.comp_assoc, hjoin, hτ']
  rfl

end Row

end Cert.Rows

end
-- ==== Proof.RefDepths.lean ====
/-
  The reference's depths, read at one row: the four entries taken at the neighbouring positions, the interpolation
  between them, and the row of coarse and interpolated depths put in ascending order.
-/
module

public import proofs.«01_k».proof.Proof.RefCount
public import proofs.«01_k».proof.Proof.Merged

@[expose] public section

noncomputable section

namespace Cert.Ref

open Idealize.ShloMosaic Cert.ReferenceIdeal Cert.ReferenceIdeal.Gen Cert.Rows

/-- Positions as a gather takes them: a negative one counted from the end of a row of `n`. -/
def wrapped (n : BitVec 32) (i : IVec S16384x128 32) : IVec S16384x128x1 32 :=
  shapeCast _ (select (cmpi .slt i (broadcastInDim S16384x128 ![] bcast_S_S16384x128 (constantI S_ 32 0#32)))
    (addi i (broadcastInDim S16384x128 ![] bcast_S_S16384x128 (constantI S_ 32 n))) i) shapeCasts_S16384x128_S16384x128x1

/-- The entries of a row of `N` at the given positions, whose last is `last`; a position outside the row gives no number. -/
def taken {N : ℕ} (wf : GatherDims.WF ⟨2, ![16384, N]⟩ S16384x128x1 S16384x128 [] [1] [0] [1] [0] 2 ![1, 1]) (n last : BitVec 32)
    (x : FVec Ideal ⟨2, ![16384, N]⟩ .f32) (i : IVec S16384x128 32) : FVec Ideal S16384x128 .f32 :=
  select (Host.reduce IntOp.andi (andi (cmpi .sge (wrapped n i) (broadcastInDim S16384x128x1 ![] bcast_S_S16384x128x1 (constantI S_ 32 0#32)))
      (cmpi .sle (wrapped n i) (broadcastInDim S16384x128x1 ![0, 1, 2] bcast_S1x1x1_S16384x128x1_0_1_2 (broadcastInDim S1x1x1 ![2] bcast_S1_S1x1x1_2 (constantI S1 32 last)))))
      (constantI S_ 1 1#1) reducesTo_S16384x128x1_S16384x128_d2 h_S_)
    (Host.gather (Cert.Host.takeDims 16384 N 128 wf) x (wrapped n i))
    (broadcastInDim S16384x128 ![] bcast_S_S16384x128 (constant S_ .f32 0x7FC00000#32))

/-- An edge at the given positions. -/
def edgeAt (w : FVec Ideal S16384x64 .f32) (i : IVec S16384x128 32) : FVec Ideal S16384x128 .f32 :=
  taken gather_S16384x65_S16384x128x1_S16384x128_n_1_0_0_1_2_11_wf 65#32 64#32 (edges w) i

/-- A coarse depth at the given positions. -/
def coarseAt (t : FVec Ideal S16384x64 .f32) (i : IVec S16384x128 32) : FVec Ideal S16384x128 .f32 :=
  taken gather_S16384x64_S16384x128x1_S16384x128_n_1_0_0_1_2_11_wf 64#32 63#32 t i

/-- The gap between the two neighbouring edges. -/
def gap (w : FVec Ideal S16384x64 .f32) (u : FVec Ideal S16384x128 .f32) : FVec Ideal S16384x128 .f32 :=
  subf (edgeAt w (above w u)) (edgeAt w (below w u))

/-- The interpolated depths. -/
def fine (w t : FVec Ideal S16384x64 .f32) (u : FVec Ideal S16384x128 .f32) : FVec Ideal S16384x128 .f32 :=
  addf (coarseAt t (below w u)) (mulf (Host.divf (subf u (edgeAt w (below w u)))
      (select (cmpf .olt (gap w u) (broadcastInDim S16384x128 ![] bcast_S_S16384x128 (constant S_ .f32 0x3727C5AC#32)))
        (broadcastInDim S16384x128 ![] bcast_S_S16384x128 (constant S_ .f32 0x3F800000#32)) (gap w u)))
    (subf (coarseAt t (above w u)) (coarseAt t (below w u))))

/-- The coarse depths followed by the interpolated ones. -/
def both (w t : FVec Ideal S16384x64 .f32) (u : FVec Ideal S16384x128 .f32) : FVec Ideal S16384x192 .f32 :=
  concatenate S16384x192 1 [⟨S16384x64, t⟩, ⟨S16384x128, fine w t u⟩] concatenates_S16384x64_S16384x128_S16384x192_d1

/-- Every row in ascending order. -/
def sorted (w t : FVec Ideal S16384x64 .f32) (u : FVec Ideal S16384x128 .f32) : FVec Ideal S16384x192 .f32 :=
  Host.sort S16384x192 1 comparator_f32_d1 (both w t u)

variable {w t : FVec Ideal S16384x64 .f32} {u : FVec Ideal S16384x128 .f32} {r : Fin 16384}

/-- Words of at most 63 are not negative and lie within either row. -/
theorem small_words : ∀ k : Fin 64,
    Scalar.select (IntOp.cmpi .slt (BitVec.ofNat 32 k.val) 0#32) (IntOp.addi (BitVec.ofNat 32 k.val) 65#32) (BitVec.ofNat 32 k.val) = BitVec.ofNat 32 k.val
      ∧ Scalar.select (IntOp.cmpi .slt (BitVec.ofNat 32 k.val) 0#32) (IntOp.addi (BitVec.ofNat 32 k.val) 64#32) (BitVec.ofNat 32 k.val) = BitVec.ofNat 32 k.val
      ∧ IntOp.andi (IntOp.cmpi .sge (BitVec.ofNat 32 k.val) 0#32) (IntOp.cmpi .sle (BitVec.ofNat 32 k.val) 64#32) = 1#1
      ∧ IntOp.andi (IntOp.cmpi .sge (BitVec.ofNat 32 k.val) 0#32) (IntOp.cmpi .sle (BitVec.ofNat 32 k.val) 63#32) = 1#1
      ∧ (BitVec.ofNat 32 k.val).toInt.toNat = k.val := by decide

/-- An entry taken at a position of at most 63 is the row's entry there. -/
theorem taken_apply {N : ℕ} (wf : GatherDims.WF ⟨2, ![16384, N]⟩ S16384x128x1 S16384x128 [] [1] [0] [1] [0] 2 ![1, 1]) (n last : BitVec 32)
    (hn : ∀ k : Fin 64, Scalar.select (IntOp.cmpi .slt (BitVec.ofNat 32 k.val) 0#32) (IntOp.addi (BitVec.ofNat 32 k.val) n) (BitVec.ofNat 32 k.val) = BitVec.ofNat 32 k.val)
    (hlast : ∀ k : Fin 64, IntOp.andi (IntOp.cmpi .sge (BitVec.ofNat 32 k.val) 0#32) (IntOp.cmpi .sle (BitVec.ofNat 32 k.val) last) = 1#1)
    (hN : 64 ≤ N) (x : FVec Ideal ⟨2, ![16384, N]⟩ .f32) (i : IVec S16384x128 32) (p : Fin 16384 → Fin 128 → Fin 64)
    (hi : ∀ r j, i (ix2 r j) = BitVec.ofNat 32 (p r j).val) (r : Fin 16384) (j : Fin 128) :
    taken wf n last x i (ix2 r j) = x (ix2 r ⟨(p r j).val, by omega⟩) := by
  have hw : ∀ (r : Fin 16384) (j : Fin 128) (z : Fin 1), wrapped n i (ix3 r j z) = BitVec.ofNat 32 (p r j).val := fun r j z => by
    refine Eq.trans ?_ (hn (p r j))
    rw [← hi r j]
    pointwise [wrapped]
  have hr : Host.reduce IntOp.andi (andi (cmpi .sge (wrapped n i) (broadcastInDim S16384x128x1 ![] bcast_S_S16384x128x1 (constantI S_ 32 0#32)))
      (cmpi .sle (wrapped n i) (broadcastInDim S16384x128x1 ![0, 1, 2] bcast_S1x1x1_S16384x128x1_0_1_2 (broadcastInDim S1x1x1 ![2] bcast_S1_S1x1x1_2 (constantI S1 32 last)))))
      (constantI S_ 1 1#1) reducesTo_S16384x128x1_S16384x128_d2 h_S_ (ix2 r j) = 1#1 := by
    refine Idealize.ShloMosaic.Host.reduce_andi_one _ _ _ _ _ rfl fun q => ?_
    refine Eq.trans ?_ (hlast (p (q 0) (q 1)))
    rw [← hw (q 0) (q 1) (q 2), ← eq_ix3 q]
    pointwise
  have hs : taken wf n last x i (ix2 r j) = Host.gather (Cert.Host.takeDims 16384 N 128 wf) x (wrapped n i) (ix2 r j) := by
    unfold taken
    rw [Cert.Host.select_at, hr]
    exact if_pos rfl
  rw [hs, Cert.Host.take_apply (by omega)]
  refine congrArg x (congrArg (ix2 r) (Fin.ext ?_))
  show min (wrapped n i (ix3 r j 0)).toInt.toNat (N - 1) = (p r j).val
  rw [hw, (small_words (p r j)).2.2.2.2]
  omega

/-- The position just before the count of row `r`'s lower edges that are not above random number `j`, and that count's own. -/
def lower (w : FVec Ideal S16384x64 .f32) (u : FVec Ideal S16384x128 .f32) (r : Fin 16384) (j : Fin 128) : Fin 64 :=
  clip (countLe (fun k => (upTo (line w r) k.val : EReal)) (u (ix2 r j)) - 1)
@[inherit_doc lower]
def upper (w : FVec Ideal S16384x64 .f32) (u : FVec Ideal S16384x128 .f32) (r : Fin 16384) (j : Fin 128) : Fin 64 :=
  clip (countLe (fun k => (upTo (line w r) k.val : EReal)) (u (ix2 r j)))

/-- An edge taken at a position of at most 63. -/
theorem edgeAt_apply (h : ∀ r, Positive (line w r)) (i : IVec S16384x128 32) (p : Fin 16384 → Fin 128 → Fin 64)
    (hi : ∀ r j, i (ix2 r j) = BitVec.ofNat 32 (p r j).val) (r : Fin 16384) (j : Fin 128) :
    edgeAt w i (ix2 r j) = (upTo (line w r) (p r j).val : EReal) :=
  (taken_apply _ _ _ (fun k => (small_words k).1) (fun k => (small_words k).2.2.1) (by omega) _ i p hi r j).trans
    (edges_line (h r) ⟨(p r j).val, by omega⟩)

/-- A coarse depth taken at a position of at most 63. -/
theorem coarseAt_apply (i : IVec S16384x128 32) (p : Fin 16384 → Fin 128 → Fin 64)
    (hi : ∀ r j, i (ix2 r j) = BitVec.ofNat 32 (p r j).val) (r : Fin 16384) (j : Fin 128) :
    coarseAt t i (ix2 r j) = line t r (p r j) :=
  taken_apply _ _ _ (fun k => (small_words k).2.1) (fun k => (small_words k).2.2.2.1) (by omega) t i p hi r j

/-- An interpolation written over whole arrays, read at one element. -/
theorem blend_at {s : Shape} (tl th cl ch x e one : FVec Ideal s .f32) (j : s.Idx) :
    addf tl (mulf (Host.divf (subf x cl) (select (cmpf .olt (subf ch cl) e) one (subf ch cl))) (subf th tl)) j
      = tl j + Ideal.div (x j - cl j) (Scalar.select (Ideal.cmp .olt (ch j - cl j) (e j)) (one j) (ch j - cl j)) * (th j - tl j) := rfl

/-- THE REFERENCE'S INTERPOLATED DEPTH is the depth at its random number. -/
theorem fine_line (h : ∀ r, Positive (line w r)) (r : Fin 16384) (j : Fin 128) :
    line (fine w t u) r j = depthAt small (fun k => (upTo (line w r) k.val : EReal)) (line t r) (line u r j) := by
  have hc : ∀ b : BitVec 32, broadcastInDim S16384x128 ![] bcast_S_S16384x128 (constant (F := Ideal) S_ .f32 b) (ix2 r j) = Ideal.ofBits .f32 b := fun b => by
    pointwise
  show fine w t u (ix2 r j) = _
  unfold fine gap
  rw [blend_at, hc, hc, ofBits_small, Ideal.ofBits_one_f32, edgeAt_apply h (below w u) (lower w u) fun r j => below_line (h r) j,
    edgeAt_apply h (above w u) (upper w u) fun r j => above_line (h r) j,
    coarseAt_apply (below w u) (lower w u) fun r j => below_line (h r) j,
    coarseAt_apply (above w u) (upper w u) fun r j => above_line (h r) j]
  have hs : ∀ (a b x y : EReal), Scalar.select (Ideal.cmp .olt a b) x y = if a < b then x else y := fun a b x y => by
    by_cases q : a < b
    · rw [if_pos q]; exact if_pos ((ofBool_decide_iff _).2 q)
    · rw [if_neg q]; exact if_neg fun z => q ((ofBool_decide_iff _).1 z)
  rw [hs]
  unfold depthAt interpAt Cert.Rows.interp lower upper line
  rfl

/-- The coarse and interpolated depths of a row, one after the other. -/
theorem both_line (r : Fin 16384) : line (both w t u) r = joined (line t r) (line (fine w t u) r) := by
  funext i
  unfold line joined
  pointwise [both]

/-- The comparison of the sort is the strict order. -/
theorem before_eq (a b : EReal) : (comparator_f32_d1 (F := Ideal) a b == 1#1) = decide (a < b) := by
  have e : ∀ a : EReal, Scalar.select (Ideal.cmp .oeq a (Ideal.ofBits .f32 0x00000000#32)) (Ideal.ofBits .f32 0x00000000#32) a = a := fun a => by
    by_cases q : a = Ideal.ofBits .f32 0x00000000#32
    · rw [← q]; unfold Scalar.select; split <;> rfl
    · exact if_neg fun z => q ((ofBool_decide_iff _).1 z)
  have n : ∀ a x y : EReal, Scalar.select (Ideal.cmp .une a a) x y = y := fun a x y =>
    if_neg fun z => absurd rfl ((ofBool_decide_iff (a ≠ a)).1 z)
  have k : comparator_f32_d1 (F := Ideal) a b = Ideal.cmp .olt
      (Scalar.select (Ideal.cmp .une a a) (Ideal.ofBits .f32 0x7FC00000#32) (Scalar.select (Ideal.cmp .oeq a (Ideal.ofBits .f32 0x00000000#32)) (Ideal.ofBits .f32 0x00000000#32) a))
      (Scalar.select (Ideal.cmp .une b b) (Ideal.ofBits .f32 0x7FC00000#32) (Scalar.select (Ideal.cmp .oeq b (Ideal.ofBits .f32 0x00000000#32)) (Ideal.ofBits .f32 0x00000000#32) b)) := rfl
  rw [k, n, n, e, e]
  show (BitVec.ofBool (decide (a < b)) == 1#1) = decide (a < b)
  cases decide (a < b) <;> rfl

/-- A matrix sorted by that comparison: each row is put in ascending order. -/
theorem sort_line {A n : ℕ} (x : (⟨2, ![A, n]⟩ : Shape).Idx → EReal) (r : Fin A) :
    line (Host.sort ⟨2, ![A, n]⟩ 1 (comparator_f32_d1 (F := Ideal)) x) r = line x r ∘ ascendingPerm (line x r) := by
  funext i
  have e : (fun k k' : Fin n => comparator_f32_d1 (F := Ideal) (x (ix2 r k)) (x (ix2 r k')) == 1#1)
      = fun k k' => decide (line x r k < line x r k') := funext fun k => funext fun k' => before_eq _ _
  refine (Cert.Host.sort_apply (comparator_f32_d1 (F := Ideal)) x r i).trans ?_
  rw [e, Function.comp_apply, ascendingPerm_apply]
  rfl

/-- A sorted row of depths is the row in ascending order. -/
theorem sorted_line (r : Fin 16384) : line (sorted w t u) r = line (both w t u) r ∘ ascendingPerm (line (both w t u) r) :=
  sort_line (both w t u) r

end Cert.Ref
end
-- ==== Proof.PreRead.lean ====
/-
  The precondition read row by row: the smoothed weights are positive and finite, the coarse depths are positive,
  finite and ascending, and no running sum whose share is below the threshold equals a random number of its row.
-/
module

public import proofs.«01_k».proof.Proof.RefCount
public import proofs.«01_k».proof.Pre_rays_in_range
public import Idealize.ShloMosaic.Lib.Routing.OpsOrder

@[expose] public section

noncomputable section

namespace Cert.Pre_rays_in_range

/-- The precondition's stated shape relations hold. -/
instance facts : Facts where
  bcast_S_S16384x64 := by decide
  reducesTo_S16384x64_S16384_d1 := by decide
  h_S_ := by decide
  bcast_S16384_S16384x1_0 := by decide
  bcast_S16384x1_S16384x64_0_1 := by decide
  bcast_S_S_ := by decide
  reduceWindows_S16384x64_S16384x64_w1s1p0_0_w64s1p63_0 := by decide
  slices_S16384x64_S16384x63_0_0 := by decide
  bcast_S16384x63_S16384x1x63_0_2 := by decide
  bcast_S16384x128_S16384x128x1_0_1 := by decide
  bcast_S16384x1x63_S16384x128x63_0_1_2 := by decide
  bcast_S16384x128x1_S16384x128x63_0_1_2 := by decide
  bcast_S_S16384x1x63 := by decide
  slices_S16384x64_S16384x63_0_1 := by decide
  reducesTo_S16384x64_S_d0_1 := by decide
  reducesTo_S16384x63_S_d0_1 := by decide
  reducesTo_S16384x128x63_S_d0_1_2 := by decide

end Cert.Pre_rays_in_range

namespace Cert.Ref

open Idealize.ShloMosaic Cert.Pre_rays_in_range Cert.Rows
open Cert.Pre_rays_in_range.Facts

/-- Two bits are both set exactly when their conjunction is. -/
theorem andi_one : ∀ a b : BitVec 1, IntOp.andi a b = 1#1 → a = 1#1 ∧ b = 1#1 := by decide

/-- A bit whose negation is set is zero. -/
theorem noti_one : ∀ a : BitVec 1, ~~~a = 1#1 → a = 0#1 := by decide

/-- A disjunction over a whole array that is zero has no set bit. -/
theorem reduce_ori_none {s t u : Shape} {axes : List (Fin s.rank)} [Subsingleton t.Idx] (x : IVec s 1) (init : IVec u 1) (h : s.ReducesTo axes t)
    (hu : 0 < u.numel) (j : t.Idx) (hi : init (Shape.Idx.first hu) = 0#1) (e : Host.reduce IntOp.ori x init h hu j = 0#1) (i : s.Idx) : x i ≠ 1#1 := by
  intro hx
  rw [Idealize.ShloMosaic.Host.reduce_eq_fold, hi] at e
  have := (Routing.fold_ori (Finset.univ.filter fun i => h.drop i = j) x).2
    ⟨i, Finset.mem_filter.2 ⟨Finset.mem_univ _, Subsingleton.elim _ _⟩, hx⟩
  rw [e] at this
  exact absurd this (by decide)

instance : Subsingleton S_.Idx := ⟨fun _ _ => funext fun a => a.elim0⟩

variable {w t : FVec Ideal S16384x64 .f32} {u : FVec Ideal S16384x128 .f32}

/-- Whether each smoothed weight is positive and finite. -/
def positiveBit (x : FVec Ideal S16384x64 .f32) : IVec S16384x64 1 :=
  andi (cmpf .ogt x (broadcastInDim S16384x64 ![] bcast_S_S16384x64 (constant S_ .f32 0x00000000#32)))
    (cmpf .olt x (broadcastInDim S16384x64 ![] bcast_S_S16384x64 (constant S_ .f32 0x7F800000#32)))

/-- Whether each coarse depth is not above the next. -/
def ascendingBit (t : FVec Ideal S16384x64 .f32) : IVec S16384x63 1 :=
  cmpf .ole (extractStridedSlice S16384x63 ![0, 0] t slices_S16384x64_S16384x63_0_0) (extractStridedSlice S16384x63 ![0, 1] t slices_S16384x64_S16384x63_0_1)

/-- Whether a running sum equals a random number while its share is below the threshold. -/
def tieBit (w : FVec Ideal S16384x64 .f32) (u : FVec Ideal S16384x128 .f32) : IVec S16384x128x63 1 :=
  andi (cmpf .oeq
      (broadcastInDim S16384x128x63 ![0, 1, 2] bcast_S16384x1x63_S16384x128x63_0_1_2 (broadcastInDim S16384x1x63 ![0, 2] bcast_S16384x63_S16384x1x63_0_2
        (extractStridedSlice S16384x63 ![0, 0] (running w) slices_S16384x64_S16384x63_0_0)))
      (broadcastInDim S16384x128x63 ![0, 1, 2] bcast_S16384x128x1_S16384x128x63_0_1_2 (broadcastInDim S16384x128x1 ![0, 1] bcast_S16384x128_S16384x128x1_0_1 u)))
    (broadcastInDim S16384x128x63 ![0, 1, 2] bcast_S16384x1x63_S16384x128x63_0_1_2 (cmpf .olt
      (broadcastInDim S16384x1x63 ![0, 2] bcast_S16384x63_S16384x1x63_0_2 (extractStridedSlice S16384x63 ![0, 0] (shares w) slices_S16384x64_S16384x63_0_0))
      (broadcastInDim S16384x1x63 ![] bcast_S_S16384x1x63 (constant S_ .f32 0x3727C5AC#32))))

/-- The precondition is the conjunction of these bits. -/
theorem fn_eq (o d : FVec Ideal S16384x3 .f32) (n : IVec S_ 32) :
    fn (F := Ideal) o d w t u n = andi (andi (andi
        (Host.reduce IntOp.andi (positiveBit (smoothed w)) (constantI S_ 1 1#1) reducesTo_S16384x64_S_d0_1 h_S_)
        (Host.reduce IntOp.andi (positiveBit t) (constantI S_ 1 1#1) reducesTo_S16384x64_S_d0_1 h_S_))
        (Host.reduce IntOp.andi (ascendingBit t) (constantI S_ 1 1#1) reducesTo_S16384x63_S_d0_1 h_S_))
      (noti (Host.reduce IntOp.ori (tieBit w u) (constantI S_ 1 0#1) reducesTo_S16384x128x63_S_d0_1_2 h_S_)) := rfl

/-- What the precondition says of every row. -/
structure InRange (w t : Fin 64 → EReal) (u : Fin 128 → EReal) : Prop where
  weights : Positive w
  depths_pos : ∀ k, 0 < t k
  depths_fin : ∀ k, t k < ⊤
  depths_le : ∀ k (h : k + 1 < 64), t ⟨k, by omega⟩ ≤ t ⟨k + 1, h⟩
  ties : ∀ (j : Fin 128) (k : Fin 63), (upTo w (k.val + 1) : EReal) = u j → small ≤ share w ⟨k.val, by omega⟩

/-- Where the bit is set, the entry is positive and finite. -/
theorem positiveBit_one (x : FVec Ideal S16384x64 .f32) (r : Fin 16384) (k : Fin 64) (h : positiveBit x (ix2 r k) = 1#1) :
    0 < line x r k ∧ line x r k < ⊤ := by
  have e : positiveBit x (ix2 r k) = IntOp.andi (Ideal.cmp .ogt (line x r k) (Ideal.ofBits .f32 0x00000000#32)) (Ideal.cmp .olt (line x r k) (Ideal.ofBits .f32 0x7F800000#32)) := by
    unfold line
    pointwise [positiveBit]
  rw [e, Ideal.ofBits_zero_f32, ofBits_inf] at h
  have := andi_one _ _ h
  exact ⟨(ofBool_decide_iff _).1 this.1, (ofBool_decide_iff _).1 this.2⟩

/-- Where the bit is set, the depth is not above the next one. -/
theorem ascendingBit_one (t : FVec Ideal S16384x64 .f32) (r : Fin 16384) (k : Fin 63) (h : ascendingBit t (ix2 r k) = 1#1) :
    line t r ⟨k.val, by omega⟩ ≤ line t r ⟨k.val + 1, by omega⟩ := by
  have e : ascendingBit t (ix2 r k) = Ideal.cmp .ole (line t r ⟨k.val, by omega⟩) (line t r ⟨1 + k.val, by omega⟩) := by
    unfold line
    pointwise [ascendingBit]
  rw [e] at h
  have := (ofBool_decide_iff _).1 h
  simpa only [Nat.add_comm 1] using this

/-- A random number at a running sum whose share is below the threshold sets the bit. -/
theorem tieBit_one (w : FVec Ideal S16384x64 .f32) (u : FVec Ideal S16384x128 .f32) (r : Fin 16384) (j : Fin 128) (k : Fin 63)
    (h1 : line (running w) r ⟨k.val, by omega⟩ = line u r j) (h2 : line (shares w) r ⟨k.val, by omega⟩ < small) : tieBit w u (ix3 r j k) = 1#1 := by
  have e : tieBit w u (ix3 r j k) = IntOp.andi (Ideal.cmp .oeq (line (running w) r ⟨k.val, by omega⟩) (line u r j))
      (Ideal.cmp .olt (line (shares w) r ⟨k.val, by omega⟩) (Ideal.ofBits .f32 0x3727C5AC#32)) := by
    unfold line
    pointwise [tieBit]
  rw [e, ofBits_small, show Ideal.cmp .oeq _ _ = 1#1 from (ofBool_decide_iff _).2 h1, show Ideal.cmp .olt _ _ = 1#1 from (ofBool_decide_iff _).2 h2]
  rfl

/-- THE PRECONDITION, row by row. -/
theorem inRange (o d : FVec Ideal S16384x3 .f32) (n : IVec S_ 32) (h : fn (F := Ideal) o d w t u n = fun _ => 1#1) (r : Fin 16384) :
    InRange (line w r) (line t r) (line u r) := by
  rw [fn_eq] at h
  obtain ⟨h123, h4⟩ := andi_one _ _ (congrFun h ix0)
  obtain ⟨h12, h3⟩ := andi_one _ _ h123
  obtain ⟨h1, h2⟩ := andi_one _ _ h12
  have a1 : ∀ k, 0 < line (smoothed w) r k ∧ line (smoothed w) r k < ⊤ := fun k =>
    positiveBit_one _ r k (Idealize.ShloMosaic.Host.reduce_andi_all _ _ _ _ _ h1 _)
  have hw : Positive (line w r) := fun k => by
    have e : line (smoothed w) r k = line w r k + (small : EReal) := by
      rw [← ofBits_small]
      unfold line
      pointwise [smoothed]
    rw [← e]
    exact a1 k
  have a2 : ∀ k, 0 < line t r k ∧ line t r k < ⊤ := fun k =>
    positiveBit_one _ r k (Idealize.ShloMosaic.Host.reduce_andi_all _ _ _ _ _ h2 _)
  refine ⟨hw, fun k => (a2 k).1, fun k => (a2 k).2, fun k hk => ?_, fun j k hjk => ?_⟩
  · exact ascendingBit_one t r ⟨k, by omega⟩ (Idealize.ShloMosaic.Host.reduce_andi_all _ _ _ _ _ h3 _)
  · by_contra hlt
    refine reduce_ori_none (tieBit w u) (constantI S_ 1 0#1) reducesTo_S16384x128x63_S_d0_1_2 h_S_ ix0 rfl (noti_one _ h4) (ix3 r j k) (tieBit_one w u r j k ?_ ?_)
    · rw [running_line hw]; exact hjk
    · rw [shares_line hw]
      exact EReal.coe_lt_coe_iff.2 (not_le.1 hlt)

end Cert.Ref
end
-- ==== Proof.RowEqual.lean ====
/-
  A row of the kernel's sorted depths is the reference's row.
-/
module

public import proofs.«01_k».proof.Proof.RefDepths
public import proofs.«01_k».proof.Proof.PreRead

@[expose] public section

noncomputable section

namespace Cert.Ref

open Idealize.ShloMosaic Cert.Rows

/-- The kernel's depths of a block, from its weights, coarse depths and random numbers. -/
def blockDepths (x2 x3 : FVec Ideal (W 64) .f32) (x4 : FVec Ideal (W 128) .f32) : FVec Ideal (W 192) .f32 :=
  depths (head (mergeDownKey 8 (keys x2 x4))) (head (mergeDownChan 8 (keys x2 x4) (chanIn x3)))

/-- ROW BY ROW THE SAME: where a block's row holds a row of the arguments, its sorted depths are the reference's. -/
theorem row_eq {w t : FVec Ideal Cert.ReferenceIdeal.S16384x64 .f32} {u : FVec Ideal Cert.ReferenceIdeal.S16384x128 .f32}
    (h : ∀ R, InRange (line w R) (line t R) (line u R)) (x2 x3 : FVec Ideal (W 64) .f32) (x4 : FVec Ideal (W 128) .f32) (r : Fin 512) (R : Fin 16384)
    (h2 : row x2 r = line w R) (h3 : row x3 r = line t R) (h4 : row x4 r = line u R) :
    row (blockDepths x2 x3 x4) r = line (sorted w t u) R := by
  have hw : Positive (row x2 r) := h2 ▸ (h R).weights
  let c : Fin 64 → ℝ := fun k => upTo (line w R) k.val
  let d : Fin 64 → ℝ := fun k => (line t R k).toReal
  have hd : ∀ k, line t R k = (d k : EReal) := fun k =>
    (EReal.coe_toReal ((h R).depths_fin k).ne (ne_bot_of_gt ((h R).depths_pos k))).symm
  have hdpos : ∀ k, 0 < d k := fun k => by
    have := (h R).depths_pos k
    rw [hd k] at this
    exact_mod_cast this
  have hdmono : Monotone d := by
    have step : ∀ a b : ℕ, ∀ (hab : a ≤ b) (hb : b < 64), d ⟨a, by omega⟩ ≤ d ⟨b, hb⟩ := by
      intro a b hab
      induction b, hab using Nat.le_induction with
      | base => intro _; exact le_refl _
      | succ b hab ih =>
        intro hb
        refine (ih (by omega)).trans ?_
        have := (h R).depths_le b hb
        rw [hd, hd] at this
        exact_mod_cast this
    intro a b hab
    exact step a.val b.val hab b.isLt
  have hcmono : StrictMono c := fun a b hab => upTo_lt (h R).weights hab (by omega)
  obtain ⟨hm, π, hπ⟩ := merged_row (c := c) (t := d) (cv := cdf x2) (tv := x3) (uv := x4) (r := r) hcmono (upTo_zero _) hdpos hdmono
    (fun k => by rw [cdf_row x2 r hw k, h2]) (fun k => by rw [h3, hd k])
    (fun j k hjk hk => by
      have e := upTo_succ (line w R) ⟨k.val - 1, by omega⟩
      have e1 : k.val - 1 + 1 = k.val := by omega
      have s := (h R).ties j ⟨k.val - 1, by omega⟩ (by
        show (upTo (line w R) (k.val - 1 + 1) : EReal) = line u R j
        rw [e1, ← h4, hjk])
      simp only [e1] at e
      show small ≤ upTo (line w R) k.val - upTo (line w R) (k.val - 1)
      rw [e]
      simpa using s)
  have hf : line (both w t u) R = joined (fun k => (d k : EReal))
      (fun j => depthAt small (fun k => (c k : EReal)) (fun k => (d k : EReal)) (row x4 r j)) := by
    rw [both_line]
    have ht : line t R = fun k => (d k : EReal) := funext hd
    rw [← ht]
    refine congrArg (joined (line t R)) (funext fun j => ?_)
    rw [fine_line (fun R => (h R).weights) R j, h4]
  rw [sorted_line, hf]
  refine Eq.trans hπ (ascending_unique _ ?_ (ascendingPerm_monotone _))
  rw [← hπ]
  exact hm

end Cert.Ref
end
-- ==== Proof.Launch.lean ====
/-
  What the kernel leaves: its two results, from the argument arrays.
-/
module

public import proofs.«01_k».proof.Proof.RowEqual
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Left

open Idealize.ShloMosaic Idealize.ShloMosaic.TcCoe Idealize.SL.Sem
open Idealize.ShloMosaic.Pipeline (Dat)
open Cert.KernelIdeal Cert.KernelIdeal.Gen Cert.Rows Cert.Ref

variable (m : (ℓ : Loc nD τ sig) → Buf (Elt Ideal) ℓ)

/-- Every window moves one block of 512 rays per grid point, along its rays. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, t.val, 0] :=
  (by decide +kernel : ∀ t : Fin grid0.N, _)

/-- The ray a block's row `r` at point `t` holds. -/
def ray (t : Fin cfg0.N) (r : Fin 512) : Fin 16384 :=
  ⟨t.val * 512 + r.val, by have : t.val < 32 := t.isLt; have := r.isLt; omega⟩

/-- A row of the weights' block is a row of the weights. -/
theorem weights_row (c : Dev nD) (t : Fin cfg0.N) (r : Fin 512) :
    row (iblk m c 2 t : FVec Ideal (W 64) .f32) r = line (m ((c : Thread nD τ).loc main_arg2) : FVec Ideal S16384x64 .f32) (ray t r) := by
  funext i
  unfold row line
  blk_point [iblk, V, idx t, ray] <;> blk_simp [idx t]

/-- A row of the coarse depths' block is a row of the coarse depths. -/
theorem coarse_row (c : Dev nD) (t : Fin cfg0.N) (r : Fin 512) :
    row (iblk m c 3 t : FVec Ideal (W 64) .f32) r = line (m ((c : Thread nD τ).loc main_arg3) : FVec Ideal S16384x64 .f32) (ray t r) := by
  funext i
  unfold row line
  blk_point [iblk, V, idx t, ray] <;> blk_simp [idx t]

/-- A row of the random numbers' block is a row of the random numbers. -/
theorem random_row (c : Dev nD) (t : Fin cfg0.N) (r : Fin 512) :
    row (iblk m c 4 t : FVec Ideal (W 128) .f32) r = line (m ((c : Thread nD τ).loc main_arg4) : FVec Ideal S16384x128 .f32) (ray t r) := by
  funext i
  unfold row line
  blk_point [iblk, V, idx t, ray] <;> blk_simp [idx t]

/-- A row of the origins' block is a row of the origins. -/
theorem origins_row (c : Dev nD) (t : Fin cfg0.N) (r : Fin 512) (k : Fin 3) :
    (iblk m c 0 t : FVec Ideal S512x3 .f32) (ix2 r k) = (m ((c : Thread nD τ).loc main_arg0) : FVec Ideal S16384x3 .f32) (ix2 (ray t r) k) := by
  blk_point [iblk, V, idx t, ray] <;> blk_simp [idx t]

/-- A row of the directions' block is a row of the directions. -/
theorem directions_row (c : Dev nD) (t : Fin cfg0.N) (r : Fin 512) (k : Fin 3) :
    (iblk m c 1 t : FVec Ideal S512x3 .f32) (ix2 r k) = (m ((c : Thread nD τ).loc main_arg1) : FVec Ideal S16384x3 .f32) (ix2 (ray t r) k) := by
  blk_point [iblk, V, idx t, ray] <;> blk_simp [idx t]

/-- The body's sorted depths, from its blocks. -/
theorem pay133_blocks (x0 x1 : Vec Ideal S512x3 .f32) (x2 x3 : Vec Ideal S512x64 .f32) (x4 : Vec Ideal S512x128 .f32) :
    k0_pay133 x0 x1 x2 x3 x4 = blockDepths x2 x3 x4 := by
  rw [pay133_eq, View.ld_unit_zero (by decide), View.ld_unit_zero (by decide), View.ld_unit_zero (by decide)]
  rfl

/-- Every ray of every device's arguments is in range. -/
def Rays : Prop :=
  ∀ (c : Dev nD) R, InRange (line (m ((c : Thread nD τ).loc main_arg2) : FVec Ideal S16384x64 .f32) R)
    (line (m ((c : Thread nD τ).loc main_arg3) : FVec Ideal S16384x64 .f32) R) (line (m ((c : Thread nD τ).loc main_arg4) : FVec Ideal S16384x128 .f32) R)

/-- The points of a ray at its sorted depths, coordinate first: origin plus depth times direction. -/
def points (o d : FVec Ideal S16384x3 .f32) (s : FVec Ideal S16384x192 .f32) : FVec Ideal S3x16384x192 .f32 :=
  fun i => o (ix2 (i 1) (i 0)) + d (ix2 (i 1) (i 0)) * s (ix2 (i 1) (i 2))

/-- The body's points of a block, at an index. -/
theorem pay1_apply (s : FVec Ideal S512x192 .f32) (o d : FVec Ideal S512x3 .f32) (k : Fin 3) (r : Fin 512) (i : Fin 192) :
    k0_pay1 s o d (ix3 k r i) = o (ix2 r k) + d (ix2 r k) * s (ix2 r i) := by
  pointwise [k0_pay1]

/-- What a point leaves in the depths' block is the body's sorted depths. -/
theorem out5_eq (x0 x1 : Vec Ideal S512x3 .f32) (x2 x3 : Vec Ideal S512x64 .f32) (x4 : Vec Ideal S512x128 .f32) :
    out0_5 x0 x1 x2 x3 x4 = k0_pay133 x0 x1 x2 x3 x4 := by
  unfold out0_5
  exact View.canon_unit_zero (S := S512x192) (off := ![0, 0]) (by decide) _ _

/-- What a point leaves in the points' block is the body's points at its sorted depths. -/
theorem out6_eq (x0 x1 : Vec Ideal S512x3 .f32) (x2 x3 : Vec Ideal S512x64 .f32) (x4 : Vec Ideal S512x128 .f32) :
    out0_6 x0 x1 x2 x3 x4 = k0_pay1 (k0_pay133 x0 x1 x2 x3 x4) x0 x1 := by
  unfold out0_6
  rw [View.ld_unit_zero (by decide), View.ld_unit_zero (by decide)]
  exact View.canon_unit_zero (S := S3x512x192) (off := ![0, 0, 0]) (by decide) _ _

/-- An index of the depths' array, of a block's index at a point. -/
theorem place5 (t : Fin cfg0.N) (r : Fin 512) (i : Fin 192) : ((win0_5.blk t).view.emb (ix2 r i) : S16384x192.Idx) = ix2 (ray t r) i := by
  blk_ext [idx t, ray]

/-- An index of the points' array, of a block's index at a point. -/
theorem place6 (t : Fin cfg0.N) (k : Fin 3) (r : Fin 512) (i : Fin 192) :
    ((win0_6.blk t).view.emb (ix3 k r i) : S3x16384x192.Idx) = ix3 k (ray t r) i := by
  blk_ext [idx t, ray]

variable {m} in
/-- A row of the body's sorted depths at a point is the reference's row. -/
theorem depths_at (h : Rays m) (c : Dev nD) (t : Fin cfg0.N) (r : Fin 512) (i : Fin 192) :
    k0_pay133 (iblk m c 0 t) (iblk m c 1 t) (iblk m c 2 t) (iblk m c 3 t) (iblk m c 4 t) (ix2 r i)
      = sorted (m ((c : Thread nD τ).loc main_arg2)) (m ((c : Thread nD τ).loc main_arg3)) (m ((c : Thread nD τ).loc main_arg4)) (ix2 (ray t r) i) := by
  rw [pay133_blocks]
  exact congrFun (row_eq (h c) _ _ _ r (ray t r) (weights_row m c t r) (coarse_row m c t r) (random_row m c t r)) i

variable {m} in
/-- THE DEPTHS LEFT: the kernel's array of depths is the reference's sorted depths. -/
theorem depths_left (h : Rays m) (c : Dev nD) : (dats m 0 c).arrAt 5 (cfgs 0).N
      = sorted (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, out5_eq]
  obtain ⟨r, i, rfl⟩ : ∃ (r : Fin 512) (i : Fin 192), y = ix2 r i := ⟨y 0, y 1, (ix2_eta y).symm⟩
  rw [place5]
  exact depths_at h c t r i

variable {m} in
/-- THE POINTS LEFT: the kernel's array of points is the points at the reference's sorted depths. -/
theorem points_left (h : Rays m) (c : Dev nD) : (dats m 0 c).arrAt 6 (cfgs 0).N
      = points (m ((c : Thread nD τ).loc main_arg0)) (m ((c : Thread nD τ).loc main_arg1))
          (sorted (m ((c : Thread nD τ).loc main_arg2)) (m ((c : Thread nD τ).loc main_arg3)) (m ((c : Thread nD τ).loc main_arg4))) := by
  refine (dats m 0 c).arrAt_eq_of_covers 6 _ (by decide +kernel) fun t _ y => ?_
  blk_simp
  rw [after0_6, out6_eq]
  obtain ⟨k, r, i, rfl⟩ : ∃ (k : Fin 3) (r : Fin 512) (i : Fin 192), y = ix3 k r i := ⟨y 0, y 1, y 2, (ix3_eta y).symm⟩
  rw [place6, pay1_apply, depths_at h c t r i]
  exact congrArg₂ (fun a b => a + b * _) (origins_row m c t r k) (directions_row m c t r k)

end Cert.Left

end
-- ==== Proof.RefRun.lean ====
/-
  The reference's results, from its argument arrays: the run's terms are the sorted depths and the points at them.
-/
module

public import proofs.«01_k».proof.Proof.RefDepths
public import proofs.«01_k».proof.Proof.Gen.ReferenceIdeal.Run
public import Idealize.ShloMosaic.Lib.Pointwise

@[expose] public section

set_option maxRecDepth 16384

noncomputable section

namespace Cert.Ref

open Idealize.ShloMosaic Idealize.ShloMosaic.TcCoe Idealize.SL.Sem Idealize.ShloMosaic.StableHlo
open Cert.ReferenceIdeal Cert.ReferenceIdeal.Gen Cert.ReferenceIdeal.Value

section Terms

variable (A : Valuation τ sig (Elt Ideal))

/-- The weights among a valuation's buffers. -/
abbrev wOf : FVec Ideal S16384x64 .f32 := A (Proc.devRef .tc main_arg2)
/-- The coarse depths among them. -/
abbrev tOf : FVec Ideal S16384x64 .f32 := A (Proc.devRef .tc main_arg3)
/-- The random numbers among them. -/
abbrev uOf : FVec Ideal S16384x128 .f32 := A (Proc.devRef .tc main_arg4)

/-- The run's smoothed weights. -/
theorem v1_eq : res_main_v1 A = smoothed (wOf A) := rfl
/-- The run's running sums. -/
theorem v6_eq : res_main_v6 A = running (wOf A) := by unfold res_main_v6; rw [v1_eq]; rfl
/-- The run's edges. -/
theorem v9_eq : res_main_v9 A = edges (wOf A) := by unfold res_main_v9; rw [v6_eq]; rfl
/-- The run's counts. -/
theorem v16_eq : res_main_v16 A = counted (wOf A) (uOf A) := by unfold res_main_v16; rw [v9_eq]; rfl
/-- The run's positions below. -/
theorem v19_eq : res_main_v19 A = below (wOf A) (uOf A) := by unfold res_main_v19; rw [v16_eq]; rfl
/-- The run's positions above. -/
theorem v20_eq : res_main_v20 A = above (wOf A) (uOf A) := by unfold res_main_v20; rw [v16_eq]; rfl
/-- The positions below, as the gather of edges takes them. -/
theorem call3_eq : res_main_call3_v5 A = wrapped 65#32 (below (wOf A) (uOf A)) := by unfold res_main_call3_v5; rw [v19_eq]; rfl
/-- The positions above, as the gather of edges takes them. -/
theorem call4_eq : res_main_call4_v5 A = wrapped 65#32 (above (wOf A) (uOf A)) := by unfold res_main_call4_v5; rw [v20_eq]; rfl
/-- The positions below, as the gather of depths takes them. -/
theorem call5_eq : res_main_call5_v5 A = wrapped 64#32 (below (wOf A) (uOf A)) := by unfold res_main_call5_v5; rw [v19_eq]; rfl
/-- The positions above, as the gather of depths takes them. -/
theorem call6_eq : res_main_call6_v5 A = wrapped 64#32 (above (wOf A) (uOf A)) := by unfold res_main_call6_v5; rw [v20_eq]; rfl
/-- The run's edges below. -/
theorem v21_eq : res_main_v21 A = edgeAt (wOf A) (below (wOf A) (uOf A)) := by unfold res_main_v21; rw [call3_eq, v9_eq]; rfl
/-- The run's coarse depths below. -/
theorem v23_eq : res_main_v23 A = coarseAt (tOf A) (below (wOf A) (uOf A)) := by unfold res_main_v23; rw [call5_eq]; rfl
/-- The run's gaps. -/
theorem v25_eq : res_main_v25 A = gap (wOf A) (uOf A) := by unfold res_main_v25; rw [call4_eq, v9_eq, v21_eq]; rfl

end Terms

/-- The points of a ray at its depths, ray first: origin plus depth times direction. -/
def along (o d : FVec Ideal S16384x3 .f32) (s : FVec Ideal S16384x192 .f32) : FVec Ideal S16384x192x3 .f32 :=
  addf (broadcastInDim S16384x192x3 ![0, 1, 2] bcast_S16384x1x3_S16384x192x3_0_1_2 (broadcastInDim S16384x1x3 ![0, 2] bcast_S16384x3_S16384x1x3_0_2 o))
    (mulf (broadcastInDim S16384x192x3 ![0, 1, 2] bcast_S16384x1x3_S16384x192x3_0_1_2 (broadcastInDim S16384x1x3 ![0, 2] bcast_S16384x3_S16384x1x3_0_2 d))
      (broadcastInDim S16384x192x3 ![0, 1, 2] bcast_S16384x192x1_S16384x192x3_0_1_2 (broadcastInDim S16384x192x1 ![0, 1] bcast_S16384x192_S16384x192x1_0_1 s)))

/-- The points at an index. -/
theorem along_apply (o d : FVec Ideal S16384x3 .f32) (s : FVec Ideal S16384x192 .f32) (R : Fin 16384) (i : Fin 192) (k : Fin 3) :
    along o d s (ix3 R i k) = o (ix2 R k) + d (ix2 R k) * s (ix2 R i) := by
  pointwise [along]

/-- THE REFERENCE'S RUN: it leaves the points at the sorted depths, the sorted depths, and its arguments as they were. -/
theorem run_sorted (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = along (m ((c.tc : Thread nD τ).loc main_arg0)) (m ((c.tc : Thread nD τ).loc main_arg1))
        (sorted (m ((c.tc : Thread nD τ).loc main_arg2)) (m ((c.tc : Thread nD τ).loc main_arg3)) (m ((c.tc : Thread nD τ).loc main_arg4)))
      ∧ r.2.mem ((c.tc : Thread nD τ).loc main_v36)
        = sorted (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.ReferenceIdeal.Value.run m ρ)
  obtain ⟨h44, h36, hargs⟩ := h c
  rw [v23_eq, v21_eq, v25_eq, call6_eq] at h44 h36
  exact ⟨h44, h36, hargs⟩

end Cert.Ref

end
-- ==== Proof.Results.lean ====
/-
  The kernel's run: its two results are the points at the reference's sorted depths, and those depths.
-/
module

public import proofs.«01_k».proof.Proof.Launch
public import proofs.«01_k».proof.Proof.RefRun

@[expose] public section

set_option maxRecDepth 16384

noncomputable section

namespace Cert.Left

open Idealize.ShloMosaic Idealize.ShloMosaic.TcCoe Idealize.SL.Sem
open Idealize.ShloMosaic.Pipeline (Dat)
open Cert.KernelIdeal Cert.KernelIdeal.Gen Cert.Rows Cert.Ref

variable (m : (ℓ : Loc nD τ sig) → Buf (Elt Ideal) ℓ) (ρ : Dev nD → PrngReg)

/-- The points with the coordinate moved last are the reference's points. -/
theorem turned (o d : FVec Ideal S16384x3 .f32) (s : FVec Ideal S16384x192 .f32) :
    transpose S16384x192x3 [1, 2, 0] (points o d s) transposes_S3x16384x192_S16384x192x3_1_2_0 = along o d s := by
  funext j
  obtain ⟨R, i, k, rfl⟩ : ∃ (R : Fin 16384) (i : Fin 192) (k : Fin 3), j = ix3 R i k := ⟨j 0, j 1, j 2, (ix3_eta j).symm⟩
  rw [along_apply]
  pointwise [points]

/-- The line after the region turns the points' array into the first result. -/
theorem after_turned (c : Dev nD) : Pipeline.afterTail₀ cfgs (dats m) 0 (V0 m) [hostOps1] c main_v1
    = transpose S16384x192x3 [1, 2, 0] ((dats m 0 c).arrAt 6 (cfgs 0).N) transposes_S3x16384x192_S16384x192x3_1_2_0 := by
  unfold Pipeline.afterTail₀
  simp only [List.flatten_cons, List.flatten_nil, List.append_nil]
  after_results
  exact congrArg (fun x : FVec Ideal S3x16384x192 .f32 => transpose S16384x192x3 [1, 2, 0] x transposes_S3x16384x192_S16384x192x3_1_2_0)
    (Pipeline.withArrays_arr _ launch0.win.arr_inj c (V0 m c) (fun w => (dats m 0 c).arrAt w (cfgs 0).N) 6)

/-- THE KERNEL'S RUN: where every ray is in range it leaves the points at the reference's sorted depths, those depths, and
    its arguments as they were. -/
theorem run_sorted (h : Rays m) :
    θ_run (defs (F := Ideal)) (onTc (τ := τ) (main (F := Ideal))) ⟨m, fun _ => 0, ρ⟩ fun r => ∀ c : Dev nD,
      r.2.mem ((c.tc : Thread nD τ).loc main_v1) = along (m ((c.tc : Thread nD τ).loc main_arg0)) (m ((c.tc : Thread nD τ).loc main_arg1))
        (sorted (m ((c.tc : Thread nD τ).loc main_arg2)) (m ((c.tc : Thread nD τ).loc main_arg3)) (m ((c.tc : Thread nD τ).loc main_arg4)))
      ∧ r.2.mem ((c.tc : Thread nD τ).loc main_v0_0)
        = sorted (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ?_) (θ_run_and (run_main m ρ) (unchanged m ρ))
  refine ⟨?_, ((hr.1 c).1 5).trans (depths_left h c), hr.2 c⟩
  refine ((hr.1 c).2 main_v1 (Pipeline.mem_restRefs_of main_v1 (by decide) (by decide))).trans ?_
  rw [after_turned, points_left h c]
  exact turned _ _ _

end Cert.Left

end
-- ==== Proof.lean ====
/-
  The proof of the claim: the frames of the kernel, of the idealized kernel and of the reference, and the equality of the
  idealized kernel's results and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import proofs.«01_k».proof.Proof.PreRead
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, its arguments end unchanged, and every counter is at zero: it declares no semaphore. -/
theorem reference_frame : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- In exact arithmetic, where every ray is in range, the kernel and the reference leave the same points and depths. -/
theorem same_results : Cert.algebraic_KernelIdeal_ReferenceIdeal_pre_rays_in_range := by
  intro m g m' g' hpre hargs
  have hr : Cert.Left.Rays m := fun c R => Cert.Ref.inRange _ _ _ (hpre c) R
  refine ⟨_, _, Cert.Left.run_sorted m g hr, ?_⟩
  refine (θ_run Cert.ReferenceIdeal.defs _ _).mono (fun r h c => ?_) (Cert.Ref.run_sorted m' g')
  obtain ⟨h0, h1, h2, h3, h4, _⟩ := hargs c
  obtain ⟨hp, hd, hrest⟩ := h c
  rw [h0, h1, h2, h3, h4] at hp
  rw [h2, h3, h4] at hd
  exact ⟨hp, hd, hrest⟩

/-- THE CLAIM. -/
theorem claim : Cert.Claim :=
  ⟨Cert.Kernel.Gen.facts, Cert.KernelIdeal.Gen.facts, Cert.ReferenceIdeal.Gen.facts, Cert.Pre_rays_in_range.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    same_results⟩

end Cert.Proof

end
